-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d_model" .f32 0x39AAAAAB#32 ((1 / 3072 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v22)) (v4 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_v23) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x3072 : Shape := ⟨3, ![6, 2048, 3072]⟩
abbrev S3072 : Shape := ⟨1, ![3072]⟩
abbrev S6x2048 : Shape := ⟨2, ![6, 2048]⟩
abbrev S3072x2304 : Shape := ⟨2, ![3072, 2304]⟩
abbrev S2304 : Shape := ⟨1, ![2304]⟩
abbrev S48 : Shape := ⟨1, ![48]⟩
abbrev S_ : Shape := ⟨0, ![]⟩
abbrev S48x1 : Shape := ⟨2, ![48, 1]⟩
abbrev S48x512 : Shape := ⟨2, ![48, 512]⟩
abbrev S12288x3072 : Shape := ⟨2, ![12288, 3072]⟩
abbrev S1x3072 : Shape := ⟨2, ![1, 3072]⟩
abbrev S1x2304 : Shape := ⟨2, ![1, 2304]⟩
abbrev S6x8x12x8x2048 : Shape := ⟨5, ![6, 8, 12, 8, 2048]⟩
abbrev S6x1x2048 : Shape := ⟨3, ![6, 1, 2048]⟩
abbrev S512x3072 : Shape := ⟨2, ![512, 3072]⟩
abbrev S1x8x12x8x512 : Shape := ⟨5, ![1, 8, 12, 8, 512]⟩
abbrev S1x1x512 : Shape := ⟨3, ![1, 1, 512]⟩
abbrev S2304x3072 : Shape := ⟨2, ![2304, 3072]⟩
abbrev S2304x512 : Shape := ⟨2, ![2304, 512]⟩
abbrev S2x512x3072 : Shape := ⟨3, ![2, 512, 3072]⟩
abbrev S8x512 : Shape := ⟨2, ![8, 512]⟩
abbrev S256x256 : Shape := ⟨2, ![256, 256]⟩
abbrev S3072x256 : Shape := ⟨2, ![3072, 256]⟩
abbrev S256x3072 : Shape := ⟨2, ![256, 3072]⟩
abbrev S128x2304 : Shape := ⟨2, ![128, 2304]⟩
abbrev S2304x128 : Shape := ⟨2, ![2304, 128]⟩
abbrev S128x256 : Shape := ⟨2, ![128, 256]⟩
abbrev S128x128 : Shape := ⟨2, ![128, 128]⟩
abbrev S8x128 : Shape := ⟨2, ![8, 128]⟩
abbrev S1x128 : Shape := ⟨2, ![1, 128]⟩
abbrev S1x1x128 : Shape := ⟨3, ![1, 1, 128]⟩
abbrev S1x512x3072 : Shape := ⟨3, ![1, 512, 3072]⟩
abbrev S1x128x128 : Shape := ⟨3, ![1, 128, 128]⟩
abbrev S1x512 : Shape := ⟨2, ![1, 512]⟩
abbrev S384x3072 : Shape := ⟨2, ![384, 3072]⟩
abbrev S384x512 : Shape := ⟨2, ![384, 512]⟩
abbrev S96x512 : Shape := ⟨2, ![96, 512]⟩
abbrev S6x8x512 : Shape := ⟨3, ![6, 8, 512]⟩
abbrev S1x1x6x8x512 : Shape := ⟨5, ![1, 1, 6, 8, 512]⟩
abbrev S12x8x512 : Shape := ⟨3, ![12, 8, 512]⟩
abbrev S1x1x12x8x512 : Shape := ⟨5, ![1, 1, 12, 8, 512]⟩
abbrev S6x8x96x2048 : Shape := ⟨4, ![6, 8, 96, 2048]⟩
abbrev S6x2048x8x96 : Shape := ⟨4, ![6, 2048, 8, 96]⟩
abbrev S6x2048x1 : Shape := ⟨3, ![6, 2048, 1]⟩

abbrev nBuf : Space → Nat
  | .hbm => 37
  | .vmem => 22
  | .smem => 0
  | _ => 0

abbrev bufTy : (tb : Table) → Fin (tcTables nBuf tb) → BufTy
  | .hbm, ⟨0, _⟩ => ⟨S6x2048x3072, .bf16⟩
  | .hbm, ⟨1, _⟩ => ⟨S3072, .f32⟩
  | .hbm, ⟨2, _⟩ => ⟨S6x2048, .i32⟩
  | .hbm, ⟨3, _⟩ => ⟨S3072x2304, .fp8e4m3⟩
  | .hbm, ⟨4, _⟩ => ⟨S2304, .f32⟩
  | .hbm, ⟨5, _⟩ => ⟨S48, .f32⟩
  | .hbm, ⟨6, _⟩ => ⟨S_, .f32⟩
  | .hbm, ⟨7, _⟩ => ⟨S48, .f32⟩
  | .hbm, ⟨8, _⟩ => ⟨S48, .f32⟩
  | .hbm, ⟨9, _⟩ => ⟨S_, .f32⟩
  | .hbm, ⟨10, _⟩ => ⟨S48, .f32⟩
  | .hbm, ⟨11, _⟩ => ⟨S48, .f32⟩
  | .hbm, ⟨12, _⟩ => ⟨S_, .f32⟩
  | .hbm, ⟨13, _⟩ => ⟨S48, .f32⟩
  | .hbm, ⟨14, _⟩ => ⟨S48, .f32⟩
  | .hbm, ⟨15, _⟩ => ⟨S48, .f32⟩
  | .hbm, ⟨16, _⟩ => ⟨S_, .f32⟩
  | .hbm, ⟨17, _⟩ => ⟨S48, .f32⟩
  | .hbm, ⟨18, _⟩ => ⟨S48, .f32⟩
  | .hbm, ⟨19, _⟩ => ⟨S48x1, .f32⟩
  | .hbm, ⟨20, _⟩ => ⟨S48x512, .f32⟩
  | .hbm, ⟨21, _⟩ => ⟨S12288x3072, .bf16⟩
  | .hbm, ⟨22, _⟩ => ⟨S1x3072, .f32⟩
  | .hbm, ⟨23, _⟩ => ⟨S1x2304, .f32⟩
  | .hbm, ⟨24, _⟩ => ⟨S6x8x12x8x2048, .bf16⟩
  | .hbm, ⟨25, _⟩ => ⟨S6x8x12x8x2048, .bf16⟩
  | .hbm, ⟨26, _⟩ => ⟨S6x8x12x8x2048, .bf16⟩
  | .hbm, ⟨27, _⟩ => ⟨S12288x3072, .fp8e4m3⟩
  | .hbm, ⟨28, _⟩ => ⟨S6x1x2048, .f32⟩
  | .hbm, ⟨29, _⟩ => ⟨S6x8x96x2048, .bf16⟩
  | .hbm, ⟨30, _⟩ => ⟨S6x2048x8x96, .bf16⟩
  | .hbm, ⟨31, _⟩ => ⟨S6x8x96x2048, .bf16⟩
  | .hbm, ⟨32, _⟩ => ⟨S6x2048x8x96, .bf16⟩
  | .hbm, ⟨33, _⟩ => ⟨S6x8x96x2048, .bf16⟩
  | .hbm, ⟨34, _⟩ => ⟨S6x2048x8x96, .bf16⟩
  | .hbm, ⟨35, _⟩ => ⟨S6x2048x3072, .fp8e4m3⟩
  | .hbm, ⟨36, _⟩ => ⟨S6x2048x1, .f32⟩
  | .local _ .vmem, ⟨0, _⟩ => ⟨S512x3072, .bf16⟩
  | .local _ .vmem, ⟨1, _⟩ => ⟨S512x3072, .bf16⟩
  | .local _ .vmem, ⟨2, _⟩ => ⟨S1x3072, .f32⟩
  | .local _ .vmem, ⟨3, _⟩ => ⟨S6x2048, .i32⟩
  | .local _ .vmem, ⟨4, _⟩ => ⟨S3072x2304, .fp8e4m3⟩
  | .local _ .vmem, ⟨5, _⟩ => ⟨S1x2304, .f32⟩
  | .local _ .vmem, ⟨6, _⟩ => ⟨S48x512, .f32⟩
  | .local _ .vmem, ⟨7, _⟩ => ⟨S1x8x12x8x512, .bf16⟩
  | .local _ .vmem, ⟨8, _⟩ => ⟨S1x8x12x8x512, .bf16⟩
  | .local _ .vmem, ⟨9, _⟩ => ⟨S1x8x12x8x512, .bf16⟩
  | .local _ .vmem, ⟨10, _⟩ => ⟨S1x8x12x8x512, .bf16⟩
  | .local _ .vmem, ⟨11, _⟩ => ⟨S1x8x12x8x512, .bf16⟩
  | .local _ .vmem, ⟨12, _⟩ => ⟨S1x8x12x8x512, .bf16⟩
  | .local _ .vmem, ⟨13, _⟩ => ⟨S512x3072, .fp8e4m3⟩
  | .local _ .vmem, ⟨14, _⟩ => ⟨S512x3072, .fp8e4m3⟩
  | .local _ .vmem, ⟨15, _⟩ => ⟨S1x1x512, .f32⟩
  | .local _ .vmem, ⟨16, _⟩ => ⟨S1x1x512, .f32⟩
  | .local _ .vmem, ⟨17, _⟩ => ⟨S2304x3072, .fp8e4m3⟩
  | .local _ .vmem, ⟨18, _⟩ => ⟨S2304x512, .f32⟩
  | .local _ .vmem, ⟨19, _⟩ => ⟨S512x3072, .f32⟩
  | .local _ .vmem, ⟨20, _⟩ => ⟨S2x512x3072, .fp8e4m3⟩
  | .local _ .vmem, ⟨21, _⟩ => ⟨S8x512, .f32⟩
  | _, _ => ⟨S6x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 3 → Nat :=
  let arg0 : BitVec 32 := BitVec.ofNat 32 (i 0).val
  let c2_i32 : BitVec 32 := 2#32
  let v0 : BitVec 32 := Scalar.remsi arg0 c2_i32
  let c0_i32_306 : BitVec 32 := 0#32
  let c0_i32_307 : BitVec 32 := 0#32
  ![v0.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let c0_i32_306 : BitVec 32 := 0#32
  let c0_i32_307 : BitVec 32 := 0#32
  ![v0.toNat, 0, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let c0_i32_316 : BitVec 32 := 0#32
  ![v0.toNat, 0, 128]
def k0_off4 (i : grid0.Coords) : Fin 3 → Nat :=
  let arg0 : BitVec 32 := BitVec.ofNat 32 (i 0).val
  let c2_i32 : BitVec 32 := 2#32
  let v0 : BitVec 32 := Scalar.remsi arg0 c2_i32
  let c0_i32_326 : BitVec 32 := 0#32
  ![v0.toNat, 0, 256]
def k0_off5 (i : grid0.Coords) : Fin 3 → Nat :=
  let arg0 : BitVec 32 := BitVec.ofNat 32 (i 0).val
  let c2_i32 : BitVec 32 := 2#32
  let v0 : BitVec 32 := Scalar.remsi arg0 c2_i32
  let c0_i32_336 : BitVec 32 := 0#32
  ![v0.toNat, 0, 384]
def k0_off6 (i : grid0.Coords) : Fin 3 → Nat :=
  let arg0 : BitVec 32 := BitVec.ofNat 32 (i 0).val
  let c2_i32 : BitVec 32 := 2#32
  let v0 : BitVec 32 := Scalar.remsi arg0 c2_i32
  let c0_i32_346 : BitVec 32 := 0#32
  ![v0.toNat, 0, 512]
def k0_off7 (i : grid0.Coords) : Fin 3 → Nat :=
  let arg0 : BitVec 32 := BitVec.ofNat 32 (i 0).val
  let c2_i32 : BitVec 32 := 2#32
  let v0 : BitVec 32 := Scalar.remsi arg0 c2_i32
  let c0_i32_356 : BitVec 32 := 0#32
  ![v0.toNat, 0, 640]
def k0_off8 (i : grid0.Coords) : Fin 3 → Nat :=
  let arg0 : BitVec 32 := BitVec.ofNat 32 (i 0).val
  let c2_i32 : BitVec 32 := 2#32
  let v0 : BitVec 32 := Scalar.remsi arg0 c2_i32
  let c0_i32_366 : BitVec 32 := 0#32
  ![v0.toNat, 0, 768]
def k0_off9 (i : grid0.Coords) : Fin 3 → Nat :=
  let arg0 : BitVec 32 := BitVec.ofNat 32 (i 0).val
  let c2_i32 : BitVec 32 := 2#32
  let v0 : BitVec 32 := Scalar.remsi arg0 c2_i32
  let c0_i32_376 : BitVec 32 := 0#32
  ![v0.toNat, 0, 896]
def k0_off10 (i : grid0.Coords) : Fin 3 → Nat :=
  let arg0 : BitVec 32 := BitVec.ofNat 32 (i 0).val
  let c2_i32 : BitVec 32 := 2#32
  let v0 : BitVec 32 := Scalar.remsi arg0 c2_i32
  let c0_i32_386 : BitVec 32 := 0#32
  ![v0.toNat, 0, 1024]
def k0_off11 (i : grid0.Coords) : Fin 3 → Nat :=
  let arg0 : BitVec 32 := BitVec.ofNat 32 (i 0).val
  let c2_i32 : BitVec 32 := 2#32
  let v0 : BitVec 32 := Scalar.remsi arg0 c2_i32
  let c0_i32_396 : BitVec 32 := 0#32
  ![v0.toNat, 0, 1152]
def k0_off12 (i : grid0.Coords) : Fin 3 → Nat :=
  let arg0 : BitVec 32 := BitVec.ofNat 32 (i 0).val
  let c2_i32 : BitVec 32 := 2#32
  let v0 : BitVec 32 := Scalar.remsi arg0 c2_i32
  let c0_i32_406 : BitVec 32 := 0#32
  ![v0.toNat, 0, 1280]
def k0_off13 (i : grid0.Coords) : Fin 3 → Nat :=
  let arg0 : BitVec 32 := BitVec.ofNat 32 (i 0).val
  let c2_i32 : BitVec 32 := 2#32
  let v0 : BitVec 32 := Scalar.remsi arg0 c2_i32
  let c0_i32_416 : BitVec 32 := 0#32
  ![v0.toNat, 0, 1408]
def k0_off14 (i : grid0.Coords) : Fin 3 → Nat :=
  let arg0 : BitVec 32 := BitVec.ofNat 32 (i 0).val
  let c2_i32 : BitVec 32 := 2#32
  let v0 : BitVec 32 := Scalar.remsi arg0 c2_i32
  let c0_i32_426 : BitVec 32 := 0#32
  ![v0.toNat, 0, 1536]
def k0_off15 (i : grid0.Coords) : Fin 3 → Nat :=
  let arg0 : BitVec 32 := BitVec.ofNat 32 (i 0).val
  let c2_i32 : BitVec 32 := 2#32
  let v0 : BitVec 32 := Scalar.remsi arg0 c2_i32
  let c0_i32_436 : BitVec 32 := 0#32
  ![v0.toNat, 0, 1664]
def k0_off16 (i : grid0.Coords) : Fin 3 → Nat :=
  let arg0 : BitVec 32 := BitVec.ofNat 32 (i 0).val
  let c2_i32 : BitVec 32 := 2#32
  let v0 : BitVec 32 := Scalar.remsi arg0 c2_i32
  let c0_i32_446 : BitVec 32 := 0#32
  ![v0.toNat, 0, 1792]
def k0_off17 (i : grid0.Coords) : Fin 3 → Nat :=
  let arg0 : BitVec 32 := BitVec.ofNat 32 (i 0).val
  let c2_i32 : BitVec 32 := 2#32
  let v0 : BitVec 32 := Scalar.remsi arg0 c2_i32
  let c0_i32_456 : BitVec 32 := 0#32
  ![v0.toNat, 0, 1920]
def k0_off18 (i : grid0.Coords) : Fin 3 → Nat :=
  let arg0 : BitVec 32 := BitVec.ofNat 32 (i 0).val
  let c2_i32 : BitVec 32 := 2#32
  let v0 : BitVec 32 := Scalar.remsi arg0 c2_i32
  let c0_i32_466 : BitVec 32 := 0#32
  ![v0.toNat, 0, 2048]
def k0_off19 (i : grid0.Coords) : Fin 3 → Nat :=
  let arg0 : BitVec 32 := BitVec.ofNat 32 (i 0).val
  let c2_i32 : BitVec 32 := 2#32
  let v0 : BitVec 32 := Scalar.remsi arg0 c2_i32
  let c0_i32_476 : BitVec 32 := 0#32
  ![v0.toNat, 0, 2176]
def k0_off20 (i : grid0.Coords) : Fin 3 → Nat :=
  let arg0 : BitVec 32 := BitVec.ofNat 32 (i 0).val
  let c2_i32 : BitVec 32 := 2#32
  let v0 : BitVec 32 := Scalar.remsi arg0 c2_i32
  let c0_i32_486 : BitVec 32 := 0#32
  ![v0.toNat, 0, 2304]
def k0_off21 (i : grid0.Coords) : Fin 3 → Nat :=
  let arg0 : BitVec 32 := BitVec.ofNat 32 (i 0).val
  let c2_i32 : BitVec 32 := 2#32
  let v0 : BitVec 32 := Scalar.remsi arg0 c2_i32
  let c0_i32_496 : BitVec 32 := 0#32
  ![v0.toNat, 0, 2432]
def k0_off22 (i : grid0.Coords) : Fin 3 → Nat :=
  let arg0 : BitVec 32 := BitVec.ofNat 32 (i 0).val
  let c2_i32 : BitVec 32 := 2#32
  let v0 : BitVec 32 := Scalar.remsi arg0 c2_i32
  let c0_i32_506 : BitVec 32 := 0#32
  ![v0.toNat, 0, 2560]
def k0_off23 (i : grid0.Coords) : Fin 3 → Nat :=
  let arg0 : BitVec 32 := BitVec.ofNat 32 (i 0).val
  let c2_i32 : BitVec 32 := 2#32
  let v0 : BitVec 32 := Scalar.remsi arg0 c2_i32
  let c0_i32_516 : BitVec 32 := 0#32
  ![v0.toNat, 0, 2688]
def k0_off24 (i : grid0.Coords) : Fin 3 → Nat :=
  let arg0 : BitVec 32 := BitVec.ofNat 32 (i 0).val
  let c2_i32 : BitVec 32 := 2#32
  let v0 : BitVec 32 := Scalar.remsi arg0 c2_i32
  let c0_i32_526 : BitVec 32 := 0#32
  ![v0.toNat, 0, 2816]
def k0_off25 (i : grid0.Coords) : Fin 3 → Nat :=
  let arg0 : BitVec 32 := BitVec.ofNat 32 (i 0).val
  let c2_i32 : BitVec 32 := 2#32
  let v0 : BitVec 32 := Scalar.remsi arg0 c2_i32
  let c0_i32_536 : BitVec 32 := 0#32
  ![v0.toNat, 0, 2944]
def k0_off26 (i : grid0.Coords) : Fin 3 → Nat :=
  let arg0 : BitVec 32 := BitVec.ofNat 32 (i 0).val
  let c2_i32 : BitVec 32 := 2#32
  let v0 : BitVec 32 := Scalar.remsi arg0 c2_i32
  let c0_i32_751 : BitVec 32 := 0#32
  ![v0.toNat, 128, 0]
def k0_off27 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 128]
def k0_off28 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 256]
def k0_off29 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 384]
def k0_off30 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 512]
def k0_off31 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 640]
def k0_off32 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 768]
def k0_off33 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 896]
def k0_off34 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 1024]
def k0_off35 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 1152]
def k0_off36 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 1280]
def k0_off37 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 1408]
def k0_off38 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 1536]
def k0_off39 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 1664]
def k0_off40 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 1792]
def k0_off41 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 1920]
def k0_off42 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 2048]
def k0_off43 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 2176]
def k0_off44 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 2304]
def k0_off45 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 2432]
def k0_off46 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 2560]
def k0_off47 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 2688]
def k0_off48 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 2816]
def k0_off49 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 2944]
def k0_off50 (i : grid0.Coords) : Fin 3 → Nat :=
  let arg0 : BitVec 32 := BitVec.ofNat 32 (i 0).val
  let c2_i32 : BitVec 32 := 2#32
  let v0 : BitVec 32 := Scalar.remsi arg0 c2_i32
  let c0_i32_1160 : BitVec 32 := 0#32
  ![v0.toNat, 256, 0]
def k0_off51 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 128]
def k0_off52 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 256]
def k0_off53 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 384]
def k0_off54 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 512]
def k0_off55 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 640]
def k0_off56 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 768]
def k0_off57 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 896]
def k0_off58 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 1024]
def k0_off59 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 1152]
def k0_off60 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 1280]
def k0_off61 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 1408]
def k0_off62 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 1536]
def k0_off63 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 1664]
def k0_off64 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 1792]
def k0_off65 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 1920]
def k0_off66 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 2048]
def k0_off67 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 2176]
def k0_off68 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 2304]
def k0_off69 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 2432]
def k0_off70 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 2560]
def k0_off71 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 2688]
def k0_off72 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 2816]
def k0_off73 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 2944]
def k0_off74 (i : grid0.Coords) : Fin 3 → Nat :=
  let arg0 : BitVec 32 := BitVec.ofNat 32 (i 0).val
  let c2_i32 : BitVec 32 := 2#32
  let v0 : BitVec 32 := Scalar.remsi arg0 c2_i32
  let c0_i32_1569 : BitVec 32 := 0#32
  ![v0.toNat, 384, 0]
def k0_off75 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 128]
def k0_off76 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 256]
def k0_off77 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 384]
def k0_off78 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 512]
def k0_off79 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 640]
def k0_off80 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 768]
def k0_off81 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 896]
def k0_off82 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 1024]
def k0_off83 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 1152]
def k0_off84 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 1280]
def k0_off85 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 1408]
def k0_off86 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 1536]
def k0_off87 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 1664]
def k0_off88 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 1792]
def k0_off89 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 1920]
def k0_off90 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 2048]
def k0_off91 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 2176]
def k0_off92 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 2304]
def k0_off93 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 2432]
def k0_off94 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 2560]
def k0_off95 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 2688]
def k0_off96 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 2816]
def k0_off97 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 2944]
def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .ne v5 c0_i32_2
  v6

def k0_mult1 (i : grid0.Coords) : BitVec 32 :=
  let arg0 : BitVec 32 := BitVec.ofNat 32 (i 0).val
  let c1_i32 : BitVec 32 := 1#32
  let v7 : BitVec 32 := Scalar.subi arg0 c1_i32
  let c4_i32 : BitVec 32 := 4#32
  let c0_i32_4 : BitVec 32 := 0#32
  let v9 : BitVec 1 := Scalar.cmpi .eq c4_i32 c0_i32_4
  let c1_i32_5 : BitVec 32 := 1#32
  let v10 : BitVec 32 := Scalar.select v9 c1_i32_5 c4_i32
  let v11 : BitVec 32 := Scalar.remsi v7 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c512_i32 : BitVec 32 := 512#32
  let v19 : BitVec 32 := Scalar.muli v18 c512_i32
  v19
def k0_off98 (i : grid0.Coords) : Fin 2 → Nat :=
  let arg0 : BitVec 32 := BitVec.ofNat 32 (i 0).val
  let c1_i32 : BitVec 32 := 1#32
  let v7 : BitVec 32 := Scalar.subi arg0 c1_i32
  let c0_i32_10 : BitVec 32 := 0#32
  let v22 : BitVec 1 := Scalar.cmpi .sgt v7 c0_i32_10
  let v23 : BitVec 32 := Scalar.extui v22
  let c0_i32_11 : BitVec 32 := 0#32
  let v24 : BitVec 1 := Scalar.cmpi .slt v7 c0_i32_11
  let v25 : BitVec 32 := Scalar.extui v24
  let v26 : BitVec 32 := Scalar.subi v23 v25
  let c4_i32_9 : BitVec 32 := 4#32
  let c0_i32_12 : BitVec 32 := 0#32
  let v27 : BitVec 1 := Scalar.cmpi .sgt c4_i32_9 c0_i32_12
  let v28 : BitVec 32 := Scalar.extui v27
  let c0_i32_13 : BitVec 32 := 0#32
  let v29 : BitVec 1 := Scalar.cmpi .slt c4_i32_9 c0_i32_13
  let v30 : BitVec 32 := Scalar.extui v29
  let v31 : BitVec 32 := Scalar.subi v28 v30
  let v32 : BitVec 1 := Scalar.cmpi .ne v26 v31
  let v33 : BitVec 32 := Scalar.remsi v7 c4_i32_9
  let c0_i32_14 : BitVec 32 := 0#32
  let v34 : BitVec 1 := Scalar.cmpi .ne v33 c0_i32_14
  let v35 : BitVec 1 := Scalar.andi v32 v34
  let v21 : BitVec 32 := Scalar.divsi v7 c4_i32_9
  let c1_i32_15 : BitVec 32 := 1#32
  let v36 : BitVec 32 := Scalar.subi v21 c1_i32_15
  let v37 : BitVec 32 := Scalar.select v35 v36 v21
  let v38 : Index := Scalar.indexCast v37
  let c4_i32 : BitVec 32 := 4#32
  let c0_i32_4 : BitVec 32 := 0#32
  let v9 : BitVec 1 := Scalar.cmpi .eq c4_i32 c0_i32_4
  let c1_i32_5 : BitVec 32 := 1#32
  let v10 : BitVec 32 := Scalar.select v9 c1_i32_5 c4_i32
  let v11 : BitVec 32 := Scalar.remsi v7 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c512_i32 : BitVec 32 := 512#32
  let v19 : BitVec 32 := Scalar.muli v18 c512_i32
  let v20 : BitVec 32 := v19
  let v39 : Index := Scalar.indexCast v20
  ![v38.toNat, v39.toNat]
def k0_off99 (i : grid0.Coords) : Fin 3 → Nat :=
  let arg0 : BitVec 32 := BitVec.ofNat 32 (i 0).val
  let c1_i32_18 : BitVec 32 := 1#32
  let v52 : BitVec 32 := Scalar.addi arg0 c1_i32_18
  let c2_i32_19 : BitVec 32 := 2#32
  let v53 : BitVec 32 := Scalar.remsi v52 c2_i32_19
  let v54 : Index := Scalar.indexCast v53
  let c0_20 : Index := 0#32
  let c0_21 : Index := 0#32
  ![v54.toNat, 0, 0]
def k0_off100 (i : grid0.Coords) : Fin 3 → Nat :=
  let arg0 : BitVec 32 := BitVec.ofNat 32 (i 0).val
  let c2_i32 : BitVec 32 := 2#32
  let v0 : BitVec 32 := Scalar.remsi arg0 c2_i32
  let c0_i32_354 : BitVec 32 := 0#32
  let c0_i32_355 : BitVec 32 := 0#32
  ![v0.toNat, 0, 0]
def k0_off101 (i : grid0.Coords) : Fin 3 → Nat :=
  let arg0 : BitVec 32 := BitVec.ofNat 32 (i 0).val
  let c2_i32 : BitVec 32 := 2#32
  let v0 : BitVec 32 := Scalar.remsi arg0 c2_i32
  let c0_i32_354 : BitVec 32 := 0#32
  let c0_i32_355 : BitVec 32 := 0#32
  ![v0.toNat, 0, 0]
def k0_off102 (i : grid0.Coords) : Fin 3 → Nat :=
  let arg0 : BitVec 32 := BitVec.ofNat 32 (i 0).val
  let c2_i32 : BitVec 32 := 2#32
  let v0 : BitVec 32 := Scalar.remsi arg0 c2_i32
  let c0_i32_364 : BitVec 32 := 0#32
  ![v0.toNat, 0, 128]
def k0_off103 (i : grid0.Coords) : Fin 3 → Nat :=
  let arg0 : BitVec 32 := BitVec.ofNat 32 (i 0).val
  let c2_i32 : BitVec 32 := 2#32
  let v0 : BitVec 32 := Scalar.remsi arg0 c2_i32
  let c0_i32_374 : BitVec 32 := 0#32
  ![v0.toNat, 0, 256]
def k0_off104 (i : grid0.Coords) : Fin 3 → Nat :=
  let arg0 : BitVec 32 := BitVec.ofNat 32 (i 0).val
  let c2_i32 : BitVec 32 := 2#32
  let v0 : BitVec 32 := Scalar.remsi arg0 c2_i32
  let c0_i32_384 : BitVec 32 := 0#32
  ![v0.toNat, 0, 384]
def k0_off105 (i : grid0.Coords) : Fin 3 → Nat :=
  let arg0 : BitVec 32 := BitVec.ofNat 32 (i 0).val
  let c2_i32 : BitVec 32 := 2#32
  let v0 : BitVec 32 := Scalar.remsi arg0 c2_i32
  let c0_i32_394 : BitVec 32 := 0#32
  ![v0.toNat, 0, 512]
def k0_off106 (i : grid0.Coords) : Fin 3 → Nat :=
  let arg0 : BitVec 32 := BitVec.ofNat 32 (i 0).val
  let c2_i32 : BitVec 32 := 2#32
  let v0 : BitVec 32 := Scalar.remsi arg0 c2_i32
  let c0_i32_404 : BitVec 32 := 0#32
  ![v0.toNat, 0, 640]
def k0_off107 (i : grid0.Coords) : Fin 3 → Nat :=
  let arg0 : BitVec 32 := BitVec.ofNat 32 (i 0).val
  let c2_i32 : BitVec 32 := 2#32
  let v0 : BitVec 32 := Scalar.remsi arg0 c2_i32
  let c0_i32_414 : BitVec 32 := 0#32
  ![v0.toNat, 0, 768]
def k0_off108 (i : grid0.Coords) : Fin 3 → Nat :=
  let arg0 : BitVec 32 := BitVec.ofNat 32 (i 0).val
  let c2_i32 : BitVec 32 := 2#32
  let v0 : BitVec 32 := Scalar.remsi arg0 c2_i32
  let c0_i32_424 : BitVec 32 := 0#32
  ![v0.toNat, 0, 896]
def k0_off109 (i : grid0.Coords) : Fin 3 → Nat :=
  let arg0 : BitVec 32 := BitVec.ofNat 32 (i 0).val
  let c2_i32 : BitVec 32 := 2#32
  let v0 : BitVec 32 := Scalar.remsi arg0 c2_i32
  let c0_i32_434 : BitVec 32 := 0#32
  ![v0.toNat, 0, 1024]
def k0_off110 (i : grid0.Coords) : Fin 3 → Nat :=
  let arg0 : BitVec 32 := BitVec.ofNat 32 (i 0).val
  let c2_i32 : BitVec 32 := 2#32
  let v0 : BitVec 32 := Scalar.remsi arg0 c2_i32
  let c0_i32_444 : BitVec 32 := 0#32
  ![v0.toNat, 0, 1152]
def k0_off111 (i : grid0.Coords) : Fin 3 → Nat :=
  let arg0 : BitVec 32 := BitVec.ofNat 32 (i 0).val
  let c2_i32 : BitVec 32 := 2#32
  let v0 : BitVec 32 := Scalar.remsi arg0 c2_i32
  let c0_i32_454 : BitVec 32 := 0#32
  ![v0.toNat, 0, 1280]
def k0_off112 (i : grid0.Coords) : Fin 3 → Nat :=
  let arg0 : BitVec 32 := BitVec.ofNat 32 (i 0).val
  let c2_i32 : BitVec 32 := 2#32
  let v0 : BitVec 32 := Scalar.remsi arg0 c2_i32
  let c0_i32_464 : BitVec 32 := 0#32
  ![v0.toNat, 0, 1408]
def k0_off113 (i : grid0.Coords) : Fin 3 → Nat :=
  let arg0 : BitVec 32 := BitVec.ofNat 32 (i 0).val
  let c2_i32 : BitVec 32 := 2#32
  let v0 : BitVec 32 := Scalar.remsi arg0 c2_i32
  let c0_i32_474 : BitVec 32 := 0#32
  ![v0.toNat, 0, 1536]
def k0_off114 (i : grid0.Coords) : Fin 3 → Nat :=
  let arg0 : BitVec 32 := BitVec.ofNat 32 (i 0).val
  let c2_i32 : BitVec 32 := 2#32
  let v0 : BitVec 32 := Scalar.remsi arg0 c2_i32
  let c0_i32_484 : BitVec 32 := 0#32
  ![v0.toNat, 0, 1664]
def k0_off115 (i : grid0.Coords) : Fin 3 → Nat :=
  let arg0 : BitVec 32 := BitVec.ofNat 32 (i 0).val
  let c2_i32 : BitVec 32 := 2#32
  let v0 : BitVec 32 := Scalar.remsi arg0 c2_i32
  let c0_i32_494 : BitVec 32 := 0#32
  ![v0.toNat, 0, 1792]
def k0_off116 (i : grid0.Coords) : Fin 3 → Nat :=
  let arg0 : BitVec 32 := BitVec.ofNat 32 (i 0).val
  let c2_i32 : BitVec 32 := 2#32
  let v0 : BitVec 32 := Scalar.remsi arg0 c2_i32
  let c0_i32_504 : BitVec 32 := 0#32
  ![v0.toNat, 0, 1920]
def k0_off117 (i : grid0.Coords) : Fin 3 → Nat :=
  let arg0 : BitVec 32 := BitVec.ofNat 32 (i 0).val
  let c2_i32 : BitVec 32 := 2#32
  let v0 : BitVec 32 := Scalar.remsi arg0 c2_i32
  let c0_i32_514 : BitVec 32 := 0#32
  ![v0.toNat, 0, 2048]
def k0_off118 (i : grid0.Coords) : Fin 3 → Nat :=
  let arg0 : BitVec 32 := BitVec.ofNat 32 (i 0).val
  let c2_i32 : BitVec 32 := 2#32
  let v0 : BitVec 32 := Scalar.remsi arg0 c2_i32
  let c0_i32_524 : BitVec 32 := 0#32
  ![v0.toNat, 0, 2176]
def k0_off119 (i : grid0.Coords) : Fin 3 → Nat :=
  let arg0 : BitVec 32 := BitVec.ofNat 32 (i 0).val
  let c2_i32 : BitVec 32 := 2#32
  let v0 : BitVec 32 := Scalar.remsi arg0 c2_i32
  let c0_i32_534 : BitVec 32 := 0#32
  ![v0.toNat, 0, 2304]
def k0_off120 (i : grid0.Coords) : Fin 3 → Nat :=
  let arg0 : BitVec 32 := BitVec.ofNat 32 (i 0).val
  let c2_i32 : BitVec 32 := 2#32
  let v0 : BitVec 32 := Scalar.remsi arg0 c2_i32
  let c0_i32_544 : BitVec 32 := 0#32
  ![v0.toNat, 0, 2432]
def k0_off121 (i : grid0.Coords) : Fin 3 → Nat :=
  let arg0 : BitVec 32 := BitVec.ofNat 32 (i 0).val
  let c2_i32 : BitVec 32 := 2#32
  let v0 : BitVec 32 := Scalar.remsi arg0 c2_i32
  let c0_i32_554 : BitVec 32 := 0#32
  ![v0.toNat, 0, 2560]
def k0_off122 (i : grid0.Coords) : Fin 3 → Nat :=
  let arg0 : BitVec 32 := BitVec.ofNat 32 (i 0).val
  let c2_i32 : BitVec 32 := 2#32
  let v0 : BitVec 32 := Scalar.remsi arg0 c2_i32
  let c0_i32_564 : BitVec 32 := 0#32
  ![v0.toNat, 0, 2688]
def k0_off123 (i : grid0.Coords) : Fin 3 → Nat :=
  let arg0 : BitVec 32 := BitVec.ofNat 32 (i 0).val
  let c2_i32 : BitVec 32 := 2#32
  let v0 : BitVec 32 := Scalar.remsi arg0 c2_i32
  let c0_i32_574 : BitVec 32 := 0#32
  ![v0.toNat, 0, 2816]
def k0_off124 (i : grid0.Coords) : Fin 3 → Nat :=
  let arg0 : BitVec 32 := BitVec.ofNat 32 (i 0).val
  let c2_i32 : BitVec 32 := 2#32
  let v0 : BitVec 32 := Scalar.remsi arg0 c2_i32
  let c0_i32_584 : BitVec 32 := 0#32
  ![v0.toNat, 0, 2944]
def k0_off125 (i : grid0.Coords) : Fin 3 → Nat :=
  let arg0 : BitVec 32 := BitVec.ofNat 32 (i 0).val
  let c2_i32 : BitVec 32 := 2#32
  let v0 : BitVec 32 := Scalar.remsi arg0 c2_i32
  let c0_i32_844 : BitVec 32 := 0#32
  ![v0.toNat, 128, 0]
def k0_off126 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 128]
def k0_off127 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 256]
def k0_off128 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 384]
def k0_off129 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 512]
def k0_off130 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 640]
def k0_off131 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 768]
def k0_off132 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 896]
def k0_off133 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 1024]
def k0_off134 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 1152]
def k0_off135 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 1280]
def k0_off136 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 1408]
def k0_off137 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 1536]
def k0_off138 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 1664]
def k0_off139 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 1792]
def k0_off140 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 1920]
def k0_off141 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 2048]
def k0_off142 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 2176]
def k0_off143 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 2304]
def k0_off144 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 2432]
def k0_off145 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 2560]
def k0_off146 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 2688]
def k0_off147 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 2816]
def k0_off148 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 128, 2944]
def k0_off149 (i : grid0.Coords) : Fin 3 → Nat :=
  let arg0 : BitVec 32 := BitVec.ofNat 32 (i 0).val
  let c2_i32 : BitVec 32 := 2#32
  let v0 : BitVec 32 := Scalar.remsi arg0 c2_i32
  let c0_i32_1298 : BitVec 32 := 0#32
  ![v0.toNat, 256, 0]
def k0_off150 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 128]
def k0_off151 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 256]
def k0_off152 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 384]
def k0_off153 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 512]
def k0_off154 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 640]
def k0_off155 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 768]
def k0_off156 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 896]
def k0_off157 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 1024]
def k0_off158 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 1152]
def k0_off159 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 1280]
def k0_off160 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 1408]
def k0_off161 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 1536]
def k0_off162 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 1664]
def k0_off163 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 1792]
def k0_off164 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 1920]
def k0_off165 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 2048]
def k0_off166 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 2176]
def k0_off167 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 2304]
def k0_off168 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 2432]
def k0_off169 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 2560]
def k0_off170 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 2688]
def k0_off171 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 2816]
def k0_off172 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 256, 2944]
def k0_off173 (i : grid0.Coords) : Fin 3 → Nat :=
  let arg0 : BitVec 32 := BitVec.ofNat 32 (i 0).val
  let c2_i32 : BitVec 32 := 2#32
  let v0 : BitVec 32 := Scalar.remsi arg0 c2_i32
  let c0_i32_1732 : BitVec 32 := 0#32
  ![v0.toNat, 384, 0]
def k0_off174 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 128]
def k0_off175 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 256]
def k0_off176 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 384]
def k0_off177 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 512]
def k0_off178 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 640]
def k0_off179 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 768]
def k0_off180 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 896]
def k0_off181 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 1024]
def k0_off182 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 1152]
def k0_off183 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 1280]
def k0_off184 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 1408]
def k0_off185 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 1536]
def k0_off186 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 1664]
def k0_off187 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 1792]
def k0_off188 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 1920]
def k0_off189 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 2048]
def k0_off190 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 2176]
def k0_off191 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 2304]
def k0_off192 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 2432]
def k0_off193 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 2560]
def k0_off194 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 2688]
def k0_off195 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 2816]
def k0_off196 (i : grid0.Coords) : Fin 3 → Nat :=
  let arg0 : BitVec 32 := BitVec.ofNat 32 (i 0).val
  let c2_i32 : BitVec 32 := 2#32
  let v0 : BitVec 32 := Scalar.remsi arg0 c2_i32
  ![v0.toNat, 384, 2944]
def cc0_transform_0 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  let c0_i32_17 : BitVec 32 := 0#32
  ![v18.toNat, c0_i32_14.toNat, c0_i32_15.toNat, c0_i32_16.toNat, v30.toNat]

def cc0_transform_7 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  let c0_i32_17 : BitVec 32 := 0#32
  ![v18.toNat, c0_i32_14.toNat, c0_i32_15.toNat, c0_i32_16.toNat, v30.toNat]

def cc0_transform_8 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  let c0_i32_17 : BitVec 32 := 0#32
  ![v18.toNat, c0_i32_14.toNat, c0_i32_15.toNat, c0_i32_16.toNat, v30.toNat]

def cc0_transform_9 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c23_i32 : BitVec 32 := 23#32
  let v0 : BitVec 32 := Scalar.minsi arg0 c23_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c23_i32_4 : BitVec 32 := 23#32
  let v18 : BitVec 32 := Scalar.minsi arg0 c23_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x12x8x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x12x8x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x12x8x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_d_model" => some ((1 / 3072 : ℝ) : EReal)
  | _ => none
-- ==== ReferenceIdeal.lean ====
abbrev S6x2048x3072 : Shape := ⟨3, ![6, 2048, 3072]⟩
abbrev S3072 : Shape := ⟨1, ![3072]⟩
abbrev S6x2048 : Shape := ⟨2, ![6, 2048]⟩
abbrev S3072x2304 : Shape := ⟨2, ![3072, 2304]⟩
abbrev S2304 : Shape := ⟨1, ![2304]⟩
abbrev S_ : Shape := ⟨0, ![]⟩
abbrev S6x2048x1 : Shape := ⟨3, ![6, 2048, 1]⟩
abbrev S1x1x3072 : Shape := ⟨3, ![1, 1, 3072]⟩
abbrev S254 : Shape := ⟨1, ![254]⟩
abbrev S1x1x254 : Shape := ⟨3, ![1, 1, 254]⟩
abbrev S6x2048x254 : Shape := ⟨3, ![6, 2048, 254]⟩
abbrev S12288x3072 : Shape := ⟨2, ![12288, 3072]⟩
abbrev S12288x1 : Shape := ⟨2, ![12288, 1]⟩
abbrev S12288x2304 : Shape := ⟨2, ![12288, 2304]⟩
abbrev S6x2048x2304 : Shape := ⟨3, ![6, 2048, 2304]⟩
abbrev S1x1x2304 : Shape := ⟨3, ![1, 1, 2304]⟩
abbrev S6x2048x768 : Shape := ⟨3, ![6, 2048, 768]⟩
abbrev S6x2048x8x96 : Shape := ⟨4, ![6, 2048, 8, 96]⟩
abbrev S48 : Shape := ⟨1, ![48]⟩
abbrev S1x1x48 : Shape := ⟨3, ![1, 1, 48]⟩
abbrev S6x2048x48 : Shape := ⟨3, ![6, 2048, 48]⟩
abbrev S6x2048x1x48 : Shape := ⟨4, ![6, 2048, 1, 48]⟩
abbrev S6x2048x8x48 : Shape := ⟨4, ![6, 2048, 8, 48]⟩

abbrev nBuf : Space → Nat
  | .hbm => 125
  | .vmem => 6
  | .smem => 0
  | _ => 0

abbrev bufTy : (tb : Table) → Fin (tcTables nBuf tb) → BufTy
  | .hbm, ⟨0, _⟩ => ⟨S6x2048x3072, .bf16⟩
  | .hbm, ⟨1, _⟩ => ⟨S3072, .f32⟩
  | .hbm, ⟨2, _⟩ => ⟨S6x2048, .i32⟩
  | .hbm, ⟨3, _⟩ => ⟨S3072x2304, .fp8e4m3⟩
  | .hbm, ⟨4, _⟩ => ⟨S2304, .f32⟩
  | .hbm, ⟨5, _⟩ => ⟨S6x2048x3072, .f32⟩
  | .hbm, ⟨6, _⟩ => ⟨S6x2048x3072, .f32⟩
  | .hbm, ⟨7, _⟩ => ⟨S_, .f32⟩
  | .hbm, ⟨8, _⟩ => ⟨S6x2048, .f32⟩
  | .hbm, ⟨9, _⟩ => ⟨S6x2048x1, .f32⟩
  | .hbm, ⟨10, _⟩ => ⟨S_, .f32⟩
  | .hbm, ⟨11, _⟩ => ⟨S6x2048x1, .f32⟩
  | .hbm, ⟨12, _⟩ => ⟨S6x2048x1, .f32⟩
  | .hbm, ⟨13, _⟩ => ⟨S_, .f32⟩
  | .hbm, ⟨14, _⟩ => ⟨S6x2048x1, .f32⟩
  | .hbm, ⟨15, _⟩ => ⟨S6x2048x1, .f32⟩
  | .hbm, ⟨16, _⟩ => ⟨S6x2048x1, .f32⟩
  | .hbm, ⟨17, _⟩ => ⟨S6x2048x3072, .f32⟩
  | .hbm, ⟨18, _⟩ => ⟨S6x2048x3072, .f32⟩
  | .hbm, ⟨19, _⟩ => ⟨S1x1x3072, .f32⟩
  | .hbm, ⟨20, _⟩ => ⟨S6x2048x3072, .f32⟩
  | .hbm, ⟨21, _⟩ => ⟨S6x2048x3072, .f32⟩
  | .hbm, ⟨22, _⟩ => ⟨S6x2048x3072, .f32⟩
  | .hbm, ⟨23, _⟩ => ⟨S_, .f32⟩
  | .hbm, ⟨24, _⟩ => ⟨S6x2048, .f32⟩
  | .hbm, ⟨25, _⟩ => ⟨S6x2048x1, .f32⟩
  | .hbm, ⟨26, _⟩ => ⟨S_, .f32⟩
  | .hbm, ⟨27, _⟩ => ⟨S6x2048x1, .f32⟩
  | .hbm, ⟨28, _⟩ => ⟨S6x2048x1, .f32⟩
  | .hbm, ⟨29, _⟩ => ⟨S254, .f32⟩
  | .hbm, ⟨30, _⟩ => ⟨S_, .f32⟩
  | .hbm, ⟨31, _⟩ => ⟨S254, .f32⟩
  | .hbm, ⟨32, _⟩ => ⟨S254, .f32⟩
  | .hbm, ⟨33, _⟩ => ⟨S_, .f32⟩
  | .hbm, ⟨34, _⟩ => ⟨S254, .f32⟩
  | .hbm, ⟨35, _⟩ => ⟨S254, .f32⟩
  | .hbm, ⟨36, _⟩ => ⟨S1x1x254, .f32⟩
  | .hbm, ⟨37, _⟩ => ⟨S6x2048x254, .f32⟩
  | .hbm, ⟨38, _⟩ => ⟨S6x2048x254, .f32⟩
  | .hbm, ⟨39, _⟩ => ⟨S6x2048x254, .i1⟩
  | .hbm, ⟨40, _⟩ => ⟨S_, .f32⟩
  | .hbm, ⟨41, _⟩ => ⟨S6x2048x1, .f32⟩
  | .hbm, ⟨42, _⟩ => ⟨S6x2048x1, .i1⟩
  | .hbm, ⟨43, _⟩ => ⟨S6x2048x254, .i1⟩
  | .hbm, ⟨44, _⟩ => ⟨S6x2048x254, .i1⟩
  | .hbm, ⟨45, _⟩ => ⟨S_, .f32⟩
  | .hbm, ⟨46, _⟩ => ⟨S_, .f32⟩
  | .hbm, ⟨47, _⟩ => ⟨S6x2048x254, .f32⟩
  | .hbm, ⟨48, _⟩ => ⟨S6x2048x254, .f32⟩
  | .hbm, ⟨49, _⟩ => ⟨S6x2048x254, .f32⟩
  | .hbm, ⟨50, _⟩ => ⟨S_, .f32⟩
  | .hbm, ⟨51, _⟩ => ⟨S6x2048, .f32⟩
  | .hbm, ⟨52, _⟩ => ⟨S6x2048x1, .f32⟩
  | .hbm, ⟨53, _⟩ => ⟨S12288x3072, .f32⟩
  | .hbm, ⟨54, _⟩ => ⟨S12288x1, .f32⟩
  | .hbm, ⟨55, _⟩ => ⟨S12288x3072, .fp8e4m3⟩
  | .hbm, ⟨56, _⟩ => ⟨S12288x2304, .f32⟩
  | .hbm, ⟨57, _⟩ => ⟨S12288x1, .f32⟩
  | .hbm, ⟨58, _⟩ => ⟨S6x2048x1, .f32⟩
  | .hbm, ⟨59, _⟩ => ⟨S6x2048x2304, .f32⟩
  | .hbm, ⟨60, _⟩ => ⟨S6x2048x2304, .f32⟩
  | .hbm, ⟨61, _⟩ => ⟨S6x2048x2304, .f32⟩
  | .hbm, ⟨62, _⟩ => ⟨S1x1x2304, .f32⟩
  | .hbm, ⟨63, _⟩ => ⟨S6x2048x2304, .f32⟩
  | .hbm, ⟨64, _⟩ => ⟨S6x2048x2304, .f32⟩
  | .hbm, ⟨65, _⟩ => ⟨S6x2048x768, .f32⟩
  | .hbm, ⟨66, _⟩ => ⟨S6x2048x8x96, .f32⟩
  | .hbm, ⟨67, _⟩ => ⟨S6x2048x768, .f32⟩
  | .hbm, ⟨68, _⟩ => ⟨S6x2048x8x96, .f32⟩
  | .hbm, ⟨69, _⟩ => ⟨S6x2048x768, .f32⟩
  | .hbm, ⟨70, _⟩ => ⟨S6x2048x8x96, .f32⟩
  | .hbm, ⟨71, _⟩ => ⟨S48, .f32⟩
  | .hbm, ⟨72, _⟩ => ⟨S_, .f32⟩
  | .hbm, ⟨73, _⟩ => ⟨S48, .f32⟩
  | .hbm, ⟨74, _⟩ => ⟨S48, .f32⟩
  | .hbm, ⟨75, _⟩ => ⟨S_, .f32⟩
  | .hbm, ⟨76, _⟩ => ⟨S48, .f32⟩
  | .hbm, ⟨77, _⟩ => ⟨S48, .f32⟩
  | .hbm, ⟨78, _⟩ => ⟨S_, .f32⟩
  | .hbm, ⟨79, _⟩ => ⟨S48, .f32⟩
  | .hbm, ⟨80, _⟩ => ⟨S48, .f32⟩
  | .hbm, ⟨81, _⟩ => ⟨S48, .f32⟩
  | .hbm, ⟨82, _⟩ => ⟨S_, .f32⟩
  | .hbm, ⟨83, _⟩ => ⟨S48, .f32⟩
  | .hbm, ⟨84, _⟩ => ⟨S48, .f32⟩
  | .hbm, ⟨85, _⟩ => ⟨S6x2048, .f32⟩
  | .hbm, ⟨86, _⟩ => ⟨S6x2048x1, .f32⟩
  | .hbm, ⟨87, _⟩ => ⟨S1x1x48, .f32⟩
  | .hbm, ⟨88, _⟩ => ⟨S6x2048x48, .f32⟩
  | .hbm, ⟨89, _⟩ => ⟨S6x2048x48, .f32⟩
  | .hbm, ⟨90, _⟩ => ⟨S6x2048x48, .f32⟩
  | .hbm, ⟨91, _⟩ => ⟨S6x2048x48, .f32⟩
  | .hbm, ⟨92, _⟩ => ⟨S6x2048x1x48, .f32⟩
  | .hbm, ⟨93, _⟩ => ⟨S6x2048x48, .f32⟩
  | .hbm, ⟨94, _⟩ => ⟨S6x2048x1x48, .f32⟩
  | .hbm, ⟨95, _⟩ => ⟨S6x2048x8x48, .f32⟩
  | .hbm, ⟨96, _⟩ => ⟨S6x2048x8x48, .f32⟩
  | .hbm, ⟨97, _⟩ => ⟨S6x2048x8x48, .f32⟩
  | .hbm, ⟨98, _⟩ => ⟨S6x2048x8x48, .f32⟩
  | .hbm, ⟨99, _⟩ => ⟨S6x2048x8x48, .f32⟩
  | .hbm, ⟨100, _⟩ => ⟨S6x2048x8x48, .f32⟩
  | .hbm, ⟨101, _⟩ => ⟨S6x2048x8x48, .f32⟩
  | .hbm, ⟨102, _⟩ => ⟨S6x2048x8x48, .f32⟩
  | .hbm, ⟨103, _⟩ => ⟨S6x2048x8x48, .f32⟩
  | .hbm, ⟨104, _⟩ => ⟨S6x2048x8x48, .f32⟩
  | .hbm, ⟨105, _⟩ => ⟨S6x2048x8x48, .f32⟩
  | .hbm, ⟨106, _⟩ => ⟨S6x2048x8x48, .f32⟩
  | .hbm, ⟨107, _⟩ => ⟨S6x2048x8x96, .f32⟩
  | .hbm, ⟨108, _⟩ => ⟨S6x2048x8x96, .bf16⟩
  | .hbm, ⟨109, _⟩ => ⟨S6x2048x8x48, .f32⟩
  | .hbm, ⟨110, _⟩ => ⟨S6x2048x8x48, .f32⟩
  | .hbm, ⟨111, _⟩ => ⟨S6x2048x8x48, .f32⟩
  | .hbm, ⟨112, _⟩ => ⟨S6x2048x8x48, .f32⟩
  | .hbm, ⟨113, _⟩ => ⟨S6x2048x8x48, .f32⟩
  | .hbm, ⟨114, _⟩ => ⟨S6x2048x8x48, .f32⟩
  | .hbm, ⟨115, _⟩ => ⟨S6x2048x8x48, .f32⟩
  | .hbm, ⟨116, _⟩ => ⟨S6x2048x8x48, .f32⟩
  | .hbm, ⟨117, _⟩ => ⟨S6x2048x8x48, .f32⟩
  | .hbm, ⟨118, _⟩ => ⟨S6x2048x8x48, .f32⟩
  | .hbm, ⟨119, _⟩ => ⟨S6x2048x8x48, .f32⟩
  | .hbm, ⟨120, _⟩ => ⟨S6x2048x8x48, .f32⟩
  | .hbm, ⟨121, _⟩ => ⟨S6x2048x8x96, .f32⟩
  | .hbm, ⟨122, _⟩ => ⟨S6x2048x8x96, .bf16⟩
  | .hbm, ⟨123, _⟩ => ⟨S6x2048x8x96, .bf16⟩
  | .hbm, ⟨124, _⟩ => ⟨S6x2048x3072, .fp8e4m3⟩
  | .local _ .vmem, ⟨0, _⟩ => ⟨S12288x3072, .f32⟩
  | .local _ .vmem, ⟨1, _⟩ => ⟨S12288x1, .f32⟩
  | .local _ .vmem, ⟨2, _⟩ => ⟨S3072x2304, .fp8e4m3⟩
  | .local _ .vmem, ⟨3, _⟩ => ⟨S12288x3072, .fp8e4m3⟩
  | .local _ .vmem, ⟨4, _⟩ => ⟨S12288x2304, .f32⟩
  | .local _ .vmem, ⟨5, _⟩ => ⟨S12288x1, .f32⟩
  | _, _ => ⟨S6x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37_0 : Ref sig .tc := ⟨.hbm, 55, rfl⟩
abbrev main_v37_1 : Ref sig .tc := ⟨.hbm, 56, rfl⟩
abbrev main_v37_2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x2304 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelFirst.lean ====
/-
The compiled kernel's body at the first grid point runs without fault and leaves its inputs as they were. Nothing is said of what it
writes; `RunFirst.lean` says that of the ideal kernel.
-/
module

public import proofs.«01_k».proof.Proof.Gen.Kernel.Frame
public import proofs.«01_k».proof.Proof.Gen.Kernel.Skeleton

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 6828000 in
set_option sl_exec.closedPieces true in
/-- The body at the first point: from the inputs at their contents and every other buffer at some contents, to the same. -/
theorem bodyFirst (c : Dev nD) (i : grid0.Coords)
    (arg1 : Memref sig .tc .vmem S512x3072 .bf16) (harg1 : arg1.IsWhole) (arg2 : Memref sig .tc .vmem S1x3072 .f32) (harg2 : arg2.IsWhole) (arg3 : Memref sig .tc .vmem S6x2048 .i32) (harg3 : arg3.IsWhole) (arg4 : Memref sig .tc .vmem S3072x2304 .fp8e4m3) (harg4 : arg4.IsWhole) (arg5 : Memref sig .tc .vmem S1x2304 .f32) (harg5 : arg5.IsWhole) (arg6 : Memref sig .tc .vmem S48x512 .f32) (harg6 : arg6.IsWhole) (arg7 : Memref sig .tc .vmem S1x8x12x8x512 .bf16) (harg7 : arg7.IsWhole) (arg8 : Memref sig .tc .vmem S1x8x12x8x512 .bf16) (harg8 : arg8.IsWhole) (arg9 : Memref sig .tc .vmem S1x8x12x8x512 .bf16) (harg9 : arg9.IsWhole) (arg10 : Memref sig .tc .vmem S512x3072 .fp8e4m3) (harg10 : arg10.IsWhole) (arg11 : Memref sig .tc .vmem S1x1x512 .f32) (harg11 : arg11.IsWhole) (arg12 : Memref sig .tc .vmem S2304x3072 .fp8e4m3) (harg12 : arg12.IsWhole) (arg13 : Memref sig .tc .vmem S2304x512 .f32) (harg13 : arg13.IsWhole) (arg14 : Memref sig .tc .vmem S512x3072 .f32) (harg14 : arg14.IsWhole) (arg15 : Memref sig .tc .vmem S2x512x3072 .fp8e4m3) (harg15 : arg15.IsWhole) (arg16 : Memref sig .tc .vmem S8x512 .f32) (harg16 : arg16.IsWhole)
    (hc0 : k0_cond1 i = 1#1) (hc1 : ¬k0_cond2 i = 1#1)
    (x0 : Vec F S512x3072 .bf16) (x1 : Vec F S1x3072 .f32) (x2 : Vec F S6x2048 .i32) (x3 : Vec F S3072x2304 .fp8e4m3) (x4 : Vec F S1x2304 .f32) (x5 : Vec F S48x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0__body_eq_skeleton]; unfold cc0__body_skel
    simp only [k0_part105_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part106_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Body

end
-- ==== Proof.KernelLater.lean ====
/-
The compiled kernel's body at a later grid point runs without fault and leaves its inputs as they were.
-/
module

public import proofs.«01_k».proof.Proof.KernelFirst

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 6828000 in
set_option sl_exec.closedPieces true in
/-- The body at a later point: from the inputs at their contents and every other buffer at some contents, to the same. -/
theorem bodyLater (c : Dev nD) (i : grid0.Coords)
    (arg1 : Memref sig .tc .vmem S512x3072 .bf16) (harg1 : arg1.IsWhole) (arg2 : Memref sig .tc .vmem S1x3072 .f32) (harg2 : arg2.IsWhole) (arg3 : Memref sig .tc .vmem S6x2048 .i32) (harg3 : arg3.IsWhole) (arg4 : Memref sig .tc .vmem S3072x2304 .fp8e4m3) (harg4 : arg4.IsWhole) (arg5 : Memref sig .tc .vmem S1x2304 .f32) (harg5 : arg5.IsWhole) (arg6 : Memref sig .tc .vmem S48x512 .f32) (harg6 : arg6.IsWhole) (arg7 : Memref sig .tc .vmem S1x8x12x8x512 .bf16) (harg7 : arg7.IsWhole) (arg8 : Memref sig .tc .vmem S1x8x12x8x512 .bf16) (harg8 : arg8.IsWhole) (arg9 : Memref sig .tc .vmem S1x8x12x8x512 .bf16) (harg9 : arg9.IsWhole) (arg10 : Memref sig .tc .vmem S512x3072 .fp8e4m3) (harg10 : arg10.IsWhole) (arg11 : Memref sig .tc .vmem S1x1x512 .f32) (harg11 : arg11.IsWhole) (arg12 : Memref sig .tc .vmem S2304x3072 .fp8e4m3) (harg12 : arg12.IsWhole) (arg13 : Memref sig .tc .vmem S2304x512 .f32) (harg13 : arg13.IsWhole) (arg14 : Memref sig .tc .vmem S512x3072 .f32) (harg14 : arg14.IsWhole) (arg15 : Memref sig .tc .vmem S2x512x3072 .fp8e4m3) (harg15 : arg15.IsWhole) (arg16 : Memref sig .tc .vmem S8x512 .f32) (harg16 : arg16.IsWhole)
    (hc0 : ¬k0_cond1 i = 1#1) (hc1 : k0_cond2 i = 1#1)
    (x0 : Vec F S512x3072 .bf16) (x1 : Vec F S1x3072 .f32) (x2 : Vec F S6x2048 .i32) (x3 : Vec F S3072x2304 .fp8e4m3) (x4 : Vec F S1x2304 .f32) (x5 : Vec F S48x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0__body_eq_skeleton]; unfold cc0__body_skel
    simp only [k0_part221_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part222_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Body

end
-- ==== Proof.KernelFrame.lean ====
/-
The compiled kernel's frame: every run terminates without fault, leaves the arguments unchanged and every semaphore counter at zero.
Nothing is named of the outputs.
-/
module

public import proofs.«01_k».proof.Proof.KernelLater
public import Idealize.ShloMosaic.Lib.Claim

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The lines after the region -/

/-- The buffers that the lines after the region write. -/
def T0 : Finset (Ref sig .tc) := {main_v16, main_v17, main_v18, main_v19, main_v20, main_v21, main_v22, main_v23}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The arguments end unchanged, from a run that keeps the inputs and the buffers no later line writes. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      (Pipeline.RDat.FramePostR.arr_in h c 3 rfl).trans ((hA c 3).trans (V_main_arg3 m c)),
      ((h c).2 main_arg4 (Finset.mem_sdiff.mpr ⟨Pipeline.mem_restRefs_of main_arg4 (by decide) (by decide), by decide⟩)).trans (V_main_arg4 m c)⟩) h

/-! ## The conditions and the buffers -/

theorem cond1_iff : ∀ t : Fin cfg0.N, k0_cond1 (grid0.coords t) = 1#1 ↔ t.val = 0 :=
  (by decide +kernel : ∀ t : Fin grid0.N, k0_cond1 (grid0.coords t) = 1#1 ↔ t.val = 0)

theorem cond2_iff : ∀ t : Fin cfg0.N, k0_cond2 (grid0.coords t) = 1#1 ↔ t.val ≠ 0 :=
  (by decide +kernel : ∀ t : Fin grid0.N, k0_cond2 (grid0.coords t) = 1#1 ↔ t.val ≠ 0)

/-- Each window's current staging memref at point `t`, spelled as the pipeline passes it (`bodyAt0`), and its wholeness. -/
abbrev ms0_0 (t : Fin cfg0.N) : Memref sig .tc .vmem S512x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3072x2304 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2304 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x12x8x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x12x8x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x12x8x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x3072 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x512 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2304x3072 .fp8e4m3 := Memref.whole cc0_scratch0
abbrev scM0_1 : Memref sig .tc .vmem S2304x512 .f32 := Memref.whole cc0_scratch1
abbrev scM0_2 : Memref sig .tc .vmem S512x3072 .f32 := Memref.whole cc0_scratch2
abbrev scM0_3 : Memref sig .tc .vmem S2x512x3072 .fp8e4m3 := Memref.whole cc0_scratch3
abbrev scM0_4 : Memref sig .tc .vmem S8x512 .f32 := Memref.whole cc0_scratch4

/-- The scratch owned at some contents, with the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-! ## The proof data -/

/-- The outputs: nothing is named of what the kernel leaves in them. -/
def forgets0 : Fin 11 → Bool := fun w => w.val == 6 || w.val == 7 || w.val == 8 || w.val == 9 || w.val == 10

/-- The proof data: the inputs at their blocks, nothing named of the outputs or the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The arrays of the proof data are what the region finds. -/
theorem A_eq (c : Dev nD) (w : Fin cfg0.W) : (dats m 0 c).A w = V m c (Pipeline.arrRef spec0 w) := by
  dsimp only [dats]

/-- The body leaves each input at its block, -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- and finds it there. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem leaves0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]

/-! ## The body -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 3200000 in
/-- The body at any point: the first point's run or a later point's. -/
theorem sound_body (c : Dev nD) (t : Fin cfg0.N) :
    bodyPre m c t ⊢ wp frame (wpE (defs₀ (F := F)) Variants.none c none) Set.univ (bodyAt0 t) (fun _ => bodyPost m c t) := by
  have run := fun K => (Classical.em (t.val = 0)).elim
    (fun h => bodyFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((cond1_iff t).mpr h) (fun h' => (cond2_iff t).mp h' h) (iblk m c 0 t) (iblk m c 1 t) (iblk m c 2 t) (iblk m c 3 t) (iblk m c 4 t) (iblk m c 5 t) Set.univ K)
    (fun h => bodyLater (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h' => h ((cond1_iff t).mp h')) ((cond2_iff t).mpr h) (iblk m c 0 t) (iblk m c 1 t) (iblk m c 2 t) (iblk m c 3 t) (iblk m c 4 t) (iblk m c 5 t) Set.univ K)
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [leaves0, leaves1, leaves2, leaves3, leaves4, leaves5]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, HS0, HS1, HS2, HS3, HS4⟩
  isplitl [HS0 HS1 HS2 HS3 HS4 Hg]
  · isplitr [Hg]; swap; · iexact Hg
    isplitl [HS0]; · iexact HS0
    isplitl [HS1]; · iexact HS1
    isplitl [HS2]; · iexact HS2
    isplitl [HS3]; · iexact HS3
    iexact HS4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- `run_main`, and every semaphore counter at zero at the end. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- Every run ends with the inputs unchanged, and every other array that the later host lines do not write as the region found it. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame: the arguments end unchanged and every counter at zero. -/
theorem frame_zero : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Body

end
-- ==== Proof.RunFirst.lean ====
/-
What the kernel body does at the first grid point: the transposed weights, the broadcast scales and the first
tile quantised. The executor runs the body; the stores it leaves are the witness.
-/
module

public import proofs.«01_k».proof.Proof.Gen.KernelIdeal.Frame
public import proofs.«01_k».proof.Proof.Gen.KernelIdeal.Skeleton

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 6828000 in
set_option sl_exec.closedPieces true in
/-- What the body leaves, as pieces (last first), with the triple that says so. -/
noncomputable def runFirst (c : Dev nD) (i : grid0.Coords)
    (arg1 : Memref sig .tc .vmem S512x3072 .bf16) (harg1 : arg1.IsWhole) (arg2 : Memref sig .tc .vmem S1x3072 .f32) (harg2 : arg2.IsWhole) (arg3 : Memref sig .tc .vmem S6x2048 .i32) (harg3 : arg3.IsWhole) (arg4 : Memref sig .tc .vmem S3072x2304 .fp8e4m3) (harg4 : arg4.IsWhole) (arg5 : Memref sig .tc .vmem S1x2304 .f32) (harg5 : arg5.IsWhole) (arg6 : Memref sig .tc .vmem S48x512 .f32) (harg6 : arg6.IsWhole) (arg7 : Memref sig .tc .vmem S1x8x12x8x512 .bf16) (harg7 : arg7.IsWhole) (arg8 : Memref sig .tc .vmem S1x8x12x8x512 .bf16) (harg8 : arg8.IsWhole) (arg9 : Memref sig .tc .vmem S1x8x12x8x512 .bf16) (harg9 : arg9.IsWhole) (arg10 : Memref sig .tc .vmem S512x3072 .fp8e4m3) (harg10 : arg10.IsWhole) (arg11 : Memref sig .tc .vmem S1x1x512 .f32) (harg11 : arg11.IsWhole) (arg12 : Memref sig .tc .vmem S2304x3072 .fp8e4m3) (harg12 : arg12.IsWhole) (arg13 : Memref sig .tc .vmem S2304x512 .f32) (harg13 : arg13.IsWhole) (arg14 : Memref sig .tc .vmem S512x3072 .f32) (harg14 : arg14.IsWhole) (arg15 : Memref sig .tc .vmem S2x512x3072 .fp8e4m3) (harg15 : arg15.IsWhole) (arg16 : Memref sig .tc .vmem S8x512 .f32) (harg16 : arg16.IsWhole)
    (hc0 : k0_cond1 i = 1#1) (hc1 : ¬k0_cond2 i = 1#1)
    (x0 : Vec F S512x3072 .bf16) (x1 : Vec F S1x3072 .f32) (x2 : Vec F S6x2048 .i32) (x3 : Vec F S3072x2304 .fp8e4m3) (x4 : Vec F S1x2304 .f32) (x5 : Vec F S48x512 .f32) (y7 : Vec F S1x8x12x8x512 .bf16) (y8 : Vec F S1x8x12x8x512 .bf16) (y9 : Vec F S1x8x12x8x512 .bf16) (cs : Vec F S2x512x3072 .fp8e4m3) :
    Σ' (L10 : List (View.Piece (Elt F) S512x3072 .fp8e4m3)), Σ' (L11 : List (View.Piece (Elt F) S1x1x512 .f32)), Σ' (L12 : List (View.Piece (Elt F) S2304x3072 .fp8e4m3)), Σ' (L13 : List (View.Piece (Elt F) S2304x512 .f32)), Σ' (L14 : List (View.Piece (Elt F) S512x3072 .f32)), Σ' (L15 : List (View.Piece (Elt F) S2x512x3072 .fp8e4m3)), { L16 : List (View.Piece (Elt F) S8x512 .f32) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare y7
          ∗ owns (c : Thread nD τ) arg8 fullShare y8
          ∗ owns (c : Thread nD τ) arg9 fullShare y9
          ∗ (∃ d, owns (c : Thread nD τ) arg10 fullShare d)
          ∗ (∃ d, owns (c : Thread nD τ) arg11 fullShare d)
          ∗ (∃ d, owns (c : Thread nD τ) arg12 fullShare d)
          ∗ (∃ d, owns (c : Thread nD τ) arg13 fullShare d)
          ∗ (∃ d, owns (c : Thread nD τ) arg14 fullShare d)
          ∗ owns (c : Thread nD τ) arg15 fullShare cs
          ∗ (∃ d, owns (c : Thread nD τ) arg16 fullShare d)
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare y7
          ∗ owns (c : Thread nD τ) arg8 fullShare y8
          ∗ owns (c : Thread nD τ) arg9 fullShare y9
          ∗ (∃ f, arg10.view.loc (c : Thread nD τ) ↦[arg10.view.set]{fullShare} arg10.view.writes (Elt F) f L10)
          ∗ (∃ f, arg11.view.loc (c : Thread nD τ) ↦[arg11.view.set]{fullShare} arg11.view.writes (Elt F) f L11)
          ∗ (∃ f, arg12.view.loc (c : Thread nD τ) ↦[arg12.view.set]{fullShare} arg12.view.writes (Elt F) f L12)
          ∗ (∃ f, arg13.view.loc (c : Thread nD τ) ↦[arg13.view.set]{fullShare} arg13.view.writes (Elt F) f L13)
          ∗ (∃ f, arg14.view.loc (c : Thread nD τ) ↦[arg14.view.set]{fullShare} arg14.view.writes (Elt F) f L14)
          ∗ (arg15.view.loc (c : Thread nD τ) ↦[arg15.view.set]{fullShare} arg15.view.writes (Elt F) (harg15.unread cs) L15)
          ∗ (∃ f, arg16.view.loc (c : Thread nD τ) ↦[arg16.view.set]{fullShare} arg16.view.writes (Elt F) f L16)) -∗ K ⟨⟩))
          ⊢ wp frame (wpE (defs₀ (F := F)) Variants.none c none) E
              (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc0__body_eq_skeleton]; unfold cc0__body_skel
    simp only [k0_part105_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part106_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, ⟨%d16, %f16, -, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg15.eq_unread hf15
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexact H15
    iexists _; iexact H16

end Cert.KernelIdeal.Body

end
-- ==== Proof.RunLater.lean ====
/-
What the kernel body does at every later grid point: the tile before projected, the present tile quantised. The
executor runs the body; the stores it leaves are the witness.
-/
module

public import proofs.«01_k».proof.Proof.RunFirst
public import proofs.«01_k».proof.Proof.Gen.KernelIdeal.Skeleton

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 6828000 in
set_option sl_exec.closedPieces true in
/-- What the body leaves, as pieces (last first), with the triple that says so. -/
noncomputable def runLater (c : Dev nD) (i : grid0.Coords)
    (arg1 : Memref sig .tc .vmem S512x3072 .bf16) (harg1 : arg1.IsWhole) (arg2 : Memref sig .tc .vmem S1x3072 .f32) (harg2 : arg2.IsWhole) (arg3 : Memref sig .tc .vmem S6x2048 .i32) (harg3 : arg3.IsWhole) (arg4 : Memref sig .tc .vmem S3072x2304 .fp8e4m3) (harg4 : arg4.IsWhole) (arg5 : Memref sig .tc .vmem S1x2304 .f32) (harg5 : arg5.IsWhole) (arg6 : Memref sig .tc .vmem S48x512 .f32) (harg6 : arg6.IsWhole) (arg7 : Memref sig .tc .vmem S1x8x12x8x512 .bf16) (harg7 : arg7.IsWhole) (arg8 : Memref sig .tc .vmem S1x8x12x8x512 .bf16) (harg8 : arg8.IsWhole) (arg9 : Memref sig .tc .vmem S1x8x12x8x512 .bf16) (harg9 : arg9.IsWhole) (arg10 : Memref sig .tc .vmem S512x3072 .fp8e4m3) (harg10 : arg10.IsWhole) (arg11 : Memref sig .tc .vmem S1x1x512 .f32) (harg11 : arg11.IsWhole) (arg12 : Memref sig .tc .vmem S2304x3072 .fp8e4m3) (harg12 : arg12.IsWhole) (arg13 : Memref sig .tc .vmem S2304x512 .f32) (harg13 : arg13.IsWhole) (arg14 : Memref sig .tc .vmem S512x3072 .f32) (harg14 : arg14.IsWhole) (arg15 : Memref sig .tc .vmem S2x512x3072 .fp8e4m3) (harg15 : arg15.IsWhole) (arg16 : Memref sig .tc .vmem S8x512 .f32) (harg16 : arg16.IsWhole)
    (hc0 : ¬k0_cond1 i = 1#1) (hc1 : k0_cond2 i = 1#1)
    (x0 : Vec F S512x3072 .bf16) (x1 : Vec F S1x3072 .f32) (x2 : Vec F S6x2048 .i32) (x3 : Vec F S3072x2304 .fp8e4m3) (x4 : Vec F S1x2304 .f32) (x5 : Vec F S48x512 .f32) (wt : Vec F S2304x3072 .fp8e4m3) (wsb : Vec F S2304x512 .f32) (cs : Vec F S2x512x3072 .fp8e4m3) (xr : Vec F S8x512 .f32) :
    Σ' (L7 : List (View.Piece (Elt F) S1x8x12x8x512 .bf16)), Σ' (L8 : List (View.Piece (Elt F) S1x8x12x8x512 .bf16)), Σ' (L9 : List (View.Piece (Elt F) S1x8x12x8x512 .bf16)), Σ' (L10 : List (View.Piece (Elt F) S512x3072 .fp8e4m3)), Σ' (L11 : List (View.Piece (Elt F) S1x1x512 .f32)), Σ' (L14 : List (View.Piece (Elt F) S512x3072 .f32)), Σ' (L15 : List (View.Piece (Elt F) S2x512x3072 .fp8e4m3)), { L16 : List (View.Piece (Elt F) S8x512 .f32) //
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ (∃ d, owns (c : Thread nD τ) arg7 fullShare d)
          ∗ (∃ d, owns (c : Thread nD τ) arg8 fullShare d)
          ∗ (∃ d, owns (c : Thread nD τ) arg9 fullShare d)
          ∗ (∃ d, owns (c : Thread nD τ) arg10 fullShare d)
          ∗ (∃ d, owns (c : Thread nD τ) arg11 fullShare d)
          ∗ owns (c : Thread nD τ) arg12 fullShare wt
          ∗ owns (c : Thread nD τ) arg13 fullShare wsb
          ∗ (∃ d, owns (c : Thread nD τ) arg14 fullShare d)
          ∗ owns (c : Thread nD τ) arg15 fullShare cs
          ∗ owns (c : Thread nD τ) arg16 fullShare xr
          ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ (∃ f, arg7.view.loc (c : Thread nD τ) ↦[arg7.view.set]{fullShare} arg7.view.writes (Elt F) f L7)
          ∗ (∃ f, arg8.view.loc (c : Thread nD τ) ↦[arg8.view.set]{fullShare} arg8.view.writes (Elt F) f L8)
          ∗ (∃ f, arg9.view.loc (c : Thread nD τ) ↦[arg9.view.set]{fullShare} arg9.view.writes (Elt F) f L9)
          ∗ (∃ f, arg10.view.loc (c : Thread nD τ) ↦[arg10.view.set]{fullShare} arg10.view.writes (Elt F) f L10)
          ∗ (∃ f, arg11.view.loc (c : Thread nD τ) ↦[arg11.view.set]{fullShare} arg11.view.writes (Elt F) f L11)
          ∗ owns (c : Thread nD τ) arg12 fullShare wt
          ∗ owns (c : Thread nD τ) arg13 fullShare wsb
          ∗ (∃ f, arg14.view.loc (c : Thread nD τ) ↦[arg14.view.set]{fullShare} arg14.view.writes (Elt F) f L14)
          ∗ (arg15.view.loc (c : Thread nD τ) ↦[arg15.view.set]{fullShare} arg15.view.writes (Elt F) (harg15.unread cs) L15)
          ∗ (arg16.view.loc (c : Thread nD τ) ↦[arg16.view.set]{fullShare} arg16.view.writes (Elt F) (harg16.unread xr) L16)) -∗ K ⟨⟩))
          ⊢ wp frame (wpE (defs₀ (F := F)) Variants.none c none) E
              (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, fun E K => ?run⟩
  case run =>
    simp only [cc0__body_eq_skeleton]; unfold cc0__body_skel
    simp only [k0_part221_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part222_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, ⟨%d14, %f14, -, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg12.eq_unread hf12; obtain rfl := harg13.eq_unread hf13; obtain rfl := harg15.eq_unread hf15; obtain rfl := harg16.eq_unread hf16
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _; isplitr; · ipureintro; exact harg12.read_unread _
      iexact H12
    isplitl [H13]
    · iexists _; isplitr; · ipureintro; exact harg13.read_unread _
      iexact H13
    isplitl [H14]
    · iexists _; iexact H14
    isplitl [H15]
    · iexact H15
    iexact H16

end Cert.KernelIdeal.Body

end
-- ==== Proof.Kit.lean ====
/-
The grid points of the kernel: which conditional each takes, which buffers it is handed, which slot and which positions it reads.
-/
module

public import proofs.«01_k».proof.Proof.RunLater

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The conditions -/

theorem cond1_iff : ∀ t : Fin cfg0.N, k0_cond1 (grid0.coords t) = 1#1 ↔ t.val = 0 :=
  (by decide +kernel : ∀ t : Fin grid0.N, k0_cond1 (grid0.coords t) = 1#1 ↔ t.val = 0)

theorem cond2_iff : ∀ t : Fin cfg0.N, k0_cond2 (grid0.coords t) = 1#1 ↔ t.val ≠ 0 :=
  (by decide +kernel : ∀ t : Fin grid0.N, k0_cond2 (grid0.coords t) = 1#1 ↔ t.val ≠ 0)

theorem coord_val : ∀ t : Fin cfg0.N, (grid0.coords t 0).val = t.val :=
  (by decide +kernel : ∀ t : Fin grid0.N, (grid0.coords t 0).val = t.val)

/-- The slot read at a point is the one the point before wrote. -/
theorem off99_eq : ∀ t : Fin cfg0.N, t.val ≠ 0 → k0_off99 (grid0.coords t) = ![(t.val - 1) % 2, 0, 0] :=
  (by decide +kernel : ∀ t : Fin grid0.N, t.val ≠ 0 → k0_off99 (grid0.coords t) = ![(t.val - 1) % 2, 0, 0])

/-- The positions read at a point are those of the tile before. -/
theorem off98_eq : ∀ t : Fin cfg0.N, t.val ≠ 0 → k0_off98 (grid0.coords t) = ![(t.val - 1) / 4, 512 * ((t.val - 1) % 4)] :=
  (by decide +kernel : ∀ t : Fin grid0.N, t.val ≠ 0 → k0_off98 (grid0.coords t) = ![(t.val - 1) / 4, 512 * ((t.val - 1) % 4)])

theorem idle6 : ∀ t : Fin cfg0.N, t.val = 0 → cfg0.idle 6 (grid0.coords t) = true := by decide +kernel
theorem idle7 : ∀ t : Fin cfg0.N, t.val = 0 → cfg0.idle 7 (grid0.coords t) = true := by decide +kernel
theorem idle8 : ∀ t : Fin cfg0.N, t.val = 0 → cfg0.idle 8 (grid0.coords t) = true := by decide +kernel
theorem noFlush6 : ∀ t : Fin cfg0.N, t.val = 0 → (cfg0.win 6).flush t = false := by decide +kernel
theorem noFlush7 : ∀ t : Fin cfg0.N, t.val = 0 → (cfg0.win 7).flush t = false := by decide +kernel
theorem noFlush8 : ∀ t : Fin cfg0.N, t.val = 0 → (cfg0.win 8).flush t = false := by decide +kernel
theorem live6 : ∀ t : Fin cfg0.N, t.val ≠ 0 → cfg0.idle 6 (grid0.coords t) = false := by decide +kernel
theorem live7 : ∀ t : Fin cfg0.N, t.val ≠ 0 → cfg0.idle 7 (grid0.coords t) = false := by decide +kernel
theorem live8 : ∀ t : Fin cfg0.N, t.val ≠ 0 → cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl

/-! ## The buffers a point is handed -/

/-- Each window's staging memref at a point, and its wholeness. -/
abbrev ms0_0 (t : Fin cfg0.N) : Memref sig .tc .vmem S512x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3072x2304 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2304 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x12x8x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x12x8x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x12x8x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x3072 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x512 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2304x3072 .fp8e4m3 := Memref.whole cc0_scratch0
abbrev scM0_1 : Memref sig .tc .vmem S2304x512 .f32 := Memref.whole cc0_scratch1
abbrev scM0_2 : Memref sig .tc .vmem S512x3072 .f32 := Memref.whole cc0_scratch2
abbrev scM0_3 : Memref sig .tc .vmem S2x512x3072 .fp8e4m3 := Memref.whole cc0_scratch3
abbrev scM0_4 : Memref sig .tc .vmem S8x512 .f32 := Memref.whole cc0_scratch4

/-- The scratch owned at some contents, with the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Body

end
-- ==== Proof.Lane.lean ====
/-
The kernel's arithmetic on one block of 128 tokens, written once: squares summed over windows, a reduction over the
lanes, the row turned into a column, the exponent ladder, the two powers of two, the clipped product. Every definition
is over any float family; `LaneValue.lean` says what each is over the extended reals.
-/
module

public import proofs.«01_k».proof.Proof.Gen.KernelIdeal.Frame
public import proofs.«01_k».proof.Proof.Gen.KernelIdeal.Skeleton

@[expose] public section

noncomputable section

namespace Cert.KernelIdeal.Body

open Idealize.ShloMosaic Idealize.ShloMosaic.TcCoe
open Cert.KernelIdeal Cert.KernelIdeal.Gen

variable {F : FTy → Type} [FloatOps F] [Named F]

/-- A pair of lane groups, widened. -/
def widen (v : Vec F S128x256 .bf16) : FVec F S128x256 .f32 :=
  extf .f32 (shapeCast S128x256 v shapeCasts_S128x256_S128x256 : FVec F S128x256 .bf16) bitsLt_bf16_f32

/-- The first lane group of a pair. -/
def lo (v : Vec F S128x256 .bf16) : FVec F S128x128 .f32 :=
  extractStridedSlice S128x128 ![0, 0] (widen v) slices_S128x256_o0_0_S128x128

/-- The second lane group of a pair. -/
def hi (v : Vec F S128x256 .bf16) : FVec F S128x128 .f32 :=
  extractStridedSlice S128x128 ![0, 128] (widen v) slices_S128x256_o0_128_S128x128

/-- The squares of a window of eight lane groups, added group by group. -/
def windowSquares (v0 v1 v2 v3 : Vec F S128x256 .bf16) : FVec F S128x128 .f32 :=
  addf (addf (addf (addf (addf (addf (addf (mulf (lo v0) (lo v0)) (mulf (hi v0) (hi v0))) (mulf (lo v1) (lo v1)))
    (mulf (hi v1) (hi v1))) (mulf (lo v2) (lo v2))) (mulf (hi v2) (hi v2))) (mulf (lo v3) (lo v3))) (mulf (hi v3) (hi v3))

/-- Three rotations by 4, 2 and 1 rows, each combined with what it rotates. -/
def butterfly (op : FVec F S8x128 .f32 → FVec F S8x128 .f32 → FVec F S8x128 .f32) (s : FVec F S8x128 .f32) :
    FVec F S8x128 .f32 :=
  op (op (op s (dynamicRotate 0 4#32 none s rotates_S8x128_d0))
      (dynamicRotate 0 2#32 none (op s (dynamicRotate 0 4#32 none s rotates_S8x128_d0)) rotates_S8x128_d0))
    (dynamicRotate 0 1#32 none (op (op s (dynamicRotate 0 4#32 none s rotates_S8x128_d0))
      (dynamicRotate 0 2#32 none (op s (dynamicRotate 0 4#32 none s rotates_S8x128_d0)) rotates_S8x128_d0))
      rotates_S8x128_d0)

/-- The sixteen groups of eight rows combined in order. -/
def rowGroups (op : FVec F S8x128 .f32 → FVec F S8x128 .f32 → FVec F S8x128 .f32) (t : FVec F S128x128 .f32) :
    FVec F S8x128 .f32 :=
  op (op (op (op (op (op (op (op (op (op (op (op (op (op (op
    (extractStridedSlice S8x128 ![0, 0] t slices_S128x128_o0_0_S8x128)
    (extractStridedSlice S8x128 ![8, 0] t slices_S128x128_o8_0_S8x128))
    (extractStridedSlice S8x128 ![16, 0] t slices_S128x128_o16_0_S8x128))
    (extractStridedSlice S8x128 ![24, 0] t slices_S128x128_o24_0_S8x128))
    (extractStridedSlice S8x128 ![32, 0] t slices_S128x128_o32_0_S8x128))
    (extractStridedSlice S8x128 ![40, 0] t slices_S128x128_o40_0_S8x128))
    (extractStridedSlice S8x128 ![48, 0] t slices_S128x128_o48_0_S8x128))
    (extractStridedSlice S8x128 ![56, 0] t slices_S128x128_o56_0_S8x128))
    (extractStridedSlice S8x128 ![64, 0] t slices_S128x128_o64_0_S8x128))
    (extractStridedSlice S8x128 ![72, 0] t slices_S128x128_o72_0_S8x128))
    (extractStridedSlice S8x128 ![80, 0] t slices_S128x128_o80_0_S8x128))
    (extractStridedSlice S8x128 ![88, 0] t slices_S128x128_o88_0_S8x128))
    (extractStridedSlice S8x128 ![96, 0] t slices_S128x128_o96_0_S8x128))
    (extractStridedSlice S8x128 ![104, 0] t slices_S128x128_o104_0_S8x128))
    (extractStridedSlice S8x128 ![112, 0] t slices_S128x128_o112_0_S8x128))
    (extractStridedSlice S8x128 ![120, 0] t slices_S128x128_o120_0_S8x128)

/-- A reduction over the lanes: the block transposed, its row groups combined, the eight rows combined by rotation. -/
def laneReduce (op : FVec F S8x128 .f32 → FVec F S8x128 .f32 → FVec F S8x128 .f32) (p : FVec F S128x128 .f32) :
    FVec F S8x128 .f32 :=
  butterfly op (rowGroups op (transpose S128x128 [1, 0] p transposes_S128x128_p1_0_S128x128))

/-- Eight equal rows as a block whose every column is that row. -/
def toColumn (r : FVec F S8x128 .f32) : FVec F S128x128 .f32 :=
  transpose S128x128 [1, 0] (concatenate S128x128 0 [⟨S8x128, r⟩, ⟨S8x128, r⟩, ⟨S8x128, r⟩, ⟨S8x128, r⟩, ⟨S8x128, r⟩,
    ⟨S8x128, r⟩, ⟨S8x128, r⟩, ⟨S8x128, r⟩, ⟨S8x128, r⟩, ⟨S8x128, r⟩, ⟨S8x128, r⟩, ⟨S8x128, r⟩, ⟨S8x128, r⟩,
    ⟨S8x128, r⟩, ⟨S8x128, r⟩, ⟨S8x128, r⟩]
    concatenates_S8x128_S8x128_S8x128_S8x128_S8x128_S8x128_S8x128_S8x128_S8x128_S8x128_S8x128_S8x128_S8x128_S8x128_S8x128_S8x128_S128x128_d0)
    transposes_S128x128_p1_0_S128x128

/-- The inverse root mean square of each row of a block, as a column. -/
def invRms (v : (n : ℕ) → n < 12 → Vec F S128x256 .bf16) : FVec F S128x128 .f32 :=
  toColumn (rsqrt (addf (mulf (addf (addf (laneReduce addf (windowSquares (v 0 (by decide)) (v 1 (by decide)) (v 2 (by decide)) (v 3 (by decide))))
    (laneReduce addf (windowSquares (v 4 (by decide)) (v 5 (by decide)) (v 6 (by decide)) (v 7 (by decide))))) (laneReduce addf (
      windowSquares (v 8 (by decide)) (v 9 (by decide)) (v 10 (by decide)) (v 11 (by decide)))))
    (broadcast S8x128 (Named.named κ "inv_d_model" 0x39AAAAAB#32 : F .f32)))
    (broadcast S8x128 (Scalar.ofBits .f32 0x358637BD#32 : F .f32))))

/-- A gain row spread over a block. -/
def gainRows (g : Vec F S1x128 .f32) : FVec F S128x128 .f32 :=
  broadcastTo S128x128 (shapeCast S1x128 g shapeCasts_S1x128_S1x128 : FVec F S1x128 .f32) broadcasts_S1x128_S128x128

/-- A lane group normalised. -/
def normed (x r : FVec F S128x128 .f32) (g : Vec F S1x128 .f32) : FVec F S128x128 .f32 := mulf (mulf x r) (gainRows g)

/-- The greatest magnitude so far, over one more pair of normalised lane groups. -/
def amaxStep (m : FVec F S128x128 .f32) (r : FVec F S128x128 .f32) (v : Vec F S128x256 .bf16) (g g' : Vec F S1x128 .f32) :
    FVec F S128x128 .f32 :=
  maximumf (maximumf m (absf (normed (lo v) r g))) (absf (normed (hi v) r g'))

/-- The greatest magnitude over the first pair. -/
def amaxFirst (r : FVec F S128x128 .f32) (v : Vec F S128x256 .bf16) (g g' : Vec F S1x128 .f32) : FVec F S128x128 .f32 :=
  maximumf (absf (normed (lo v) r g)) (absf (normed (hi v) r g'))

/-- One rung: the value brought down by `2 ^ s` and the exponent up by `s`, where the value is at least `2 ^ s`. -/
def rung (thr down s : BitVec 32) (ze : FVec F S8x128 .f32 × IVec S8x128 32) : FVec F S8x128 .f32 × IVec S8x128 32 :=
  (select (cmpf .oge ze.1 (broadcast S8x128 (Scalar.ofBits .f32 thr : F .f32)))
      (mulf ze.1 (broadcast S8x128 (Scalar.ofBits .f32 down : F .f32))) ze.1,
   select (cmpf .oge ze.1 (broadcast S8x128 (Scalar.ofBits .f32 thr : F .f32)))
      (addi ze.2 (broadcast S8x128 s)) ze.2)

/-- Where the ladder starts: a value below one is brought up by `2 ^ 127`. -/
def ladderStart (y : FVec F S8x128 .f32) : FVec F S8x128 .f32 × IVec S8x128 32 :=
  (select (cmpf .olt y (broadcast S8x128 (Scalar.ofBits .f32 0x3F800000#32 : F .f32)))
      (mulf y (broadcast S8x128 (Scalar.ofBits .f32 0x7F000000#32 : F .f32))) y,
   select (cmpf .olt y (broadcast S8x128 (Scalar.ofBits .f32 0x3F800000#32 : F .f32)))
      (broadcast S8x128 0#32) (broadcast S8x128 127#32))

/-- The seven rungs. -/
def ladder (y : FVec F S8x128 .f32) : FVec F S8x128 .f32 × IVec S8x128 32 :=
  rung 0x40000000#32 0x3F000000#32 1#32 (rung 0x40800000#32 0x3E800000#32 2#32 (rung 0x41800000#32 0x3D800000#32 4#32
    (rung 0x43800000#32 0x3B800000#32 8#32 (rung 0x47800000#32 0x37800000#32 16#32 (rung 0x4F800000#32 0x2F800000#32 32#32
      (rung 0x5F800000#32 0x1F800000#32 64#32 (ladderStart y)))))))

/-- The exponent field of `y`, 255 where the ladder does not bring it below two. -/
def expField (y : FVec F S8x128 .f32) : IVec S8x128 32 :=
  select (cmpf .olt (ladder y).1 (broadcast S8x128 (Scalar.ofBits .f32 0x40000000#32 : F .f32))) (ladder y).2
    (broadcast S8x128 255#32)

/-- Is the exponent field that of no normal number? -/
def special (e : IVec S8x128 32) : IVec S8x128 1 :=
  ori (cmpi .eq e (broadcast S8x128 0#32)) (cmpi .eq e (broadcast S8x128 255#32))

/-- The power of two with a given exponent field, zero at the field zero. -/
def powerOf (e : IVec S8x128 32) : FVec F S8x128 .f32 :=
  select (cmpi .eq e (broadcast S8x128 0#32)) (broadcast S8x128 (Scalar.ofBits .f32 0x00000000#32 : F .f32))
    (exp2 (sitofp .f32 (subi e (broadcast S8x128 127#32)) : FVec F S8x128 .f32))

/-- A greatest magnitude over the greatest code. -/
def overMax (m : FVec F S128x128 .f32) : FVec F S8x128 .f32 :=
  mulf (laneReduce maximumf m) (broadcast S8x128 (Scalar.ofBits .f32 0x3B124925#32 : F .f32))

/-- The inverse scale of each row, eight equal rows. -/
def invRow (m : FVec F S128x128 .f32) : FVec F S8x128 .f32 :=
  powerOf (select (special (expField (overMax m))) (broadcast S8x128 127#32)
    (maxsi (subi (broadcast S8x128 253#32) (expField (overMax m))) (broadcast S8x128 0#32)))

/-- The scale of each row, eight equal rows. -/
def scaleRow (m : FVec F S128x128 .f32) : FVec F S8x128 .f32 :=
  powerOf (select (special (expField (overMax m))) (broadcast S8x128 127#32)
    (addi (expField (overMax m)) (broadcast S8x128 1#32)))

/-- A normalised lane group scaled and clipped to the range of the codes. -/
def coded (h : Vec F S128x128 .f32) (inv : FVec F S128x128 .f32) : FVec F S128x128 .fp8e4m3 :=
  truncf .fp8e4m3 (minimumf (broadcast S128x128 (Scalar.ofBits .f32 0x43E00000#32 : F .f32))
    (maximumf (broadcast S128x128 (Scalar.ofBits .f32 0xC3E00000#32 : F .f32)) (mulf h inv))) bitsLt_fp8e4m3_f32

/-- The greatest magnitude of each row of a block, lane by lane. -/
def amaxLanes (r : FVec F S128x128 .f32) (v : (n : ℕ) → n < 12 → Vec F S128x256 .bf16)
    (g : (n : ℕ) → n < 24 → Vec F S1x128 .f32) : FVec F S128x128 .f32 :=
  amaxStep
    (amaxStep
    (amaxStep
    (amaxStep
    (amaxStep
    (amaxStep
    (amaxStep
    (amaxStep
    (amaxStep
    (amaxStep
    (amaxStep
    (amaxFirst r (v 0 (by decide)) (g 0 (by decide)) (g 1 (by decide))) r (v 1 (by decide)) (g 2 (by decide)) (g 3 (by decide))) r (v 2 (by decide)) (g 4 (by decide)) (g 5 (by decide))) r (v 3 (by decide)) (g 6 (by decide)) (g 7 (by decide))) r (v 4 (by decide)) (g 8 (by decide)) (g 9 (by decide))) r (v 5 (by decide)) (g 10 (by decide)) (g 11 (by decide))) r (v 6 (by decide)) (g 12 (by decide)) (g 13 (by decide))) r (v 7 (by decide)) (g 14 (by decide)) (g 15 (by decide))) r (v 8 (by decide)) (g 16 (by decide)) (g 17 (by decide))) r (v 9 (by decide)) (g 18 (by decide)) (g 19 (by decide))) r (v 10 (by decide)) (g 20 (by decide)) (g 21 (by decide))) r (v 11 (by decide)) (g 22 (by decide)) (g 23 (by decide))

/-! ## The loads of a tile -/

theorem xl_inb {o k : ℕ} (ho : o + 128 ≤ 512) (hk : k < 12) :
    ∀ d, (![o, 256 * k] : Fin 2 → ℕ) d + S128x256.size d ≤ S512x3072.size d := by
  intro d; fin_cases d <;> simp [S128x256, S512x3072] <;> omega

theorem gl_inb {k : ℕ} (hk : k < 24) : ∀ d, (![0, 128 * k] : Fin 2 → ℕ) d + S1x128.size d ≤ S1x3072.size d := by
  intro d; fin_cases d <;> simp [S1x128, S1x3072]; omega

/-- Lane group pair `k` of the rows from `o`, as the body loads it. -/
def xl (a : Memref sig .tc .vmem S512x3072 .bf16) (h : a.IsWhole) (x : Vec F S512x3072 .bf16) (o : ℕ) (ho : o + 128 ≤ 512)
    (k : ℕ) (hk : k < 12) : Vec F S128x256 .bf16 :=
  View.readAt (Elt F) a.view (Rect.unit (s := S512x3072) ![o, 256 * k] S128x256.size (xl_inb ho hk)).toLoadRect (h.unread x)

/-- Lane group `k` of the gains, as the body loads it. -/
def gl (a : Memref sig .tc .vmem S1x3072 .f32) (h : a.IsWhole) (g : Vec F S1x3072 .f32) (k : ℕ) (hk : k < 24) :
    Vec F S1x128 .f32 :=
  View.readAt (Elt F) a.view (Rect.unit (s := S1x3072) ![0, 128 * k] S1x128.size (gl_inb hk)).toLoadRect (h.unread g)

variable (a1 : Memref sig .tc .vmem S512x3072 .bf16) (h1 : a1.IsWhole) (a2 : Memref sig .tc .vmem S1x3072 .f32)
  (h2 : a2.IsWhole) (x : Vec F S512x3072 .bf16) (g : Vec F S1x3072 .f32) (o : ℕ) (ho : o + 128 ≤ 512)

/-- The inverse root mean squares of the rows from `o`. -/
def rmsOf : FVec F S128x128 .f32 := invRms (xl a1 h1 x o ho)

/-- The greatest magnitudes of the rows from `o`. -/
def amaxOf : FVec F S128x128 .f32 := amaxLanes (rmsOf a1 h1 x o ho) (xl a1 h1 x o ho) (gl a2 h2 g)

/-- The inverse scales of the rows from `o`, as a column. -/
def invOf : FVec F S128x128 .f32 := toColumn (invRow (amaxOf a1 h1 a2 h2 x g o ho))

/-- The scales of the rows from `o`. -/
def scaleOf : FVec F S8x128 .f32 := scaleRow (amaxOf a1 h1 a2 h2 x g o ho)

end Cert.KernelIdeal.Body

end
-- ==== Proof.Tiles.lean ====
/-
The stores of a tile's quantiser, as lists written once: the normalised rows block by block and lane group by lane group,
their codes, the scales. Every definition is over any float family.
-/
module

public import proofs.«01_k».proof.Proof.Lane

@[expose] public section

noncomputable section

namespace Cert.KernelIdeal.Body

open Idealize.ShloMosaic Idealize.ShloMosaic.TcCoe
open Cert.KernelIdeal Cert.KernelIdeal.Gen

/-- The list of `f 0`, …, `f (N - 1)`, last first. -/
def downFrom {α : Type*} : (N : ℕ) → ((m : ℕ) → m < N → α) → List α
  | 0, _ => []
  | N + 1, f => f N (Nat.lt_succ_self N) :: downFrom N fun m h => f m (Nat.lt_succ_of_lt h)

theorem mem_downFrom {α : Type*} {a : α} : ∀ {N : ℕ} {f : (m : ℕ) → m < N → α}, a ∈ downFrom N f ↔ ∃ m h, a = f m h
  | 0, f => by simp [downFrom]
  | N + 1, f => by
    simp only [downFrom, List.mem_cons, mem_downFrom]
    constructor
    · rintro (h | ⟨m, h, e⟩)
      · exact ⟨N, _, h⟩
      · exact ⟨m, _, e⟩
    · rintro ⟨m, h, e⟩
      rcases Nat.lt_succ_iff_lt_or_eq.mp h with h' | rfl
      · exact .inr ⟨m, h', e⟩
      · exact .inl e

variable {F : FTy → Type} [FloatOps F] [Named F]

theorem tile_inb {m N : ℕ} (hN : N ≤ 96) (hm : m < N) :
    ∀ d, (![128 * (m / 24), 128 * (m % 24)] : Fin 2 → ℕ) d + S128x128.size d ≤ S512x3072.size d := by
  intro d; fin_cases d <;> simp [S128x128, S512x3072] <;> omega

theorem slot_inb {s m N : ℕ} (hs : s < 2) (hN : N ≤ 96) (hm : m < N) :
    ∀ d, (![s, 128 * (m / 24), 128 * (m % 24)] : Fin 3 → ℕ) d + S1x128x128.size d ≤ S2x512x3072.size d := by
  intro d; fin_cases d <;> simp [S1x128x128, S2x512x3072] <;> omega

theorem scale_inb {b : ℕ} (hb : b < 4) : ∀ d, (![0, 128 * b] : Fin 2 → ℕ) d + S8x128.size d ≤ S8x512.size d := by
  intro d; fin_cases d <;> simp [S8x128, S8x512] <;> omega

theorem scaleOut_inb {b : ℕ} (hb : b < 4) : ∀ d, (![0, 0, 128 * b] : Fin 3 → ℕ) d + S1x1x128.size d ≤ S1x1x512.size d := by
  intro d; fin_cases d <;> simp [S1x1x128, S1x1x512] <;> omega

/-- Block `m / 24`, lane group `m % 24` of a tile. -/
def tileRect {m N : ℕ} (hN : N ≤ 96) (hm : m < N) : Rect S512x3072 :=
  Rect.unit (s := S512x3072) ![128 * (m / 24), 128 * (m % 24)] S128x128.size (tile_inb hN hm)

variable (a1 : Memref sig .tc .vmem S512x3072 .bf16) (h1 : a1.IsWhole) (a2 : Memref sig .tc .vmem S1x3072 .f32)
  (h2 : a2.IsWhole) (a14 : Memref sig .tc .vmem S512x3072 .f32) (x : Vec F S512x3072 .bf16) (g : Vec F S1x3072 .f32)

/-- Lane group `n` of the normalised rows from `o`. -/
def hBlock (o : ℕ) (ho : o + 128 ≤ 512) (n : ℕ) (hn : n < 24) : FVec F S128x128 .f32 :=
  shapeCast S128x128 (normed
    (cond (Nat.beq (n % 2) 0) (lo (xl a1 h1 x o ho (n / 2) (by omega))) (hi (xl a1 h1 x o ho (n / 2) (by omega))))
    (rmsOf a1 h1 x o ho) (gl a2 h2 g n hn)) shapeCasts_S128x128_S128x128

theorem block_le {m N : ℕ} (hN : N ≤ 96) (hm : m < N) : 128 * (m / 24) + 128 ≤ 512 := by omega

/-- The stores of the first `N` lane groups of the normalised rows. -/
def hStores (N : ℕ) (hN : N ≤ 96) : List (View.Piece (Elt F) S512x3072 .f32) :=
  downFrom N fun m hm => ⟨tileRect hN hm,
    hBlock a1 h1 a2 h2 x g (128 * (m / 24)) (block_le hN hm) (m % 24) (Nat.mod_lt _ (by decide))⟩

/-- The stores of `N` lane groups of codes into the output block; `hs b` are the stores of normalised rows that the codes of
block `b` are read back from, `inv b` its inverse scales. -/
def cStores (hs : ℕ → List (View.Piece (Elt F) S512x3072 .f32)) (inv : ℕ → FVec F S128x128 .f32) (N : ℕ) (hN : N ≤ 96) :
    List (View.Piece (Elt F) S512x3072 .fp8e4m3) :=
  downFrom N fun m hm => ⟨tileRect hN hm, coded (a14.view.readCov (hs (m / 24)) (tileRect hN hm).toLoadRect) (inv (m / 24))⟩

/-- The stores of `N` lane groups of codes into slot `s` of the codes kept. -/
def slotStores (s : ℕ) (hs2 : s < 2) (hs : ℕ → List (View.Piece (Elt F) S512x3072 .f32)) (inv : ℕ → FVec F S128x128 .f32)
    (N : ℕ) (hN : N ≤ 96) : List (View.Piece (Elt F) S2x512x3072 .fp8e4m3) :=
  downFrom N fun m hm => ⟨Rect.unit (s := S2x512x3072) ![s, 128 * (m / 24), 128 * (m % 24)] S1x128x128.size (slot_inb hs2 hN hm),
    shapeCast S1x128x128 (shapeCast S128x128 (coded (a14.view.readCov (hs (m / 24)) (tileRect hN hm).toLoadRect) (inv (m / 24)))
      shapeCasts_S128x128_S128x128 : FVec F S128x128 .fp8e4m3) shapeCasts_S128x128_S1x128x128⟩

/-- One of four by number. -/
def pick4 {α : Type*} (A B C D : α) : ℕ → α
  | 0 => A
  | 1 => B
  | 2 => C
  | _ => D

/-- The stores of the scales kept. -/
def scaleStores : List (View.Piece (Elt F) S8x512 .f32) :=
  downFrom 4 fun b hb => ⟨Rect.unit (s := S8x512) ![0, 128 * b] S8x128.size (scale_inb hb),
    shapeCast S8x128 (scaleOf a1 h1 a2 h2 x g (128 * b) (by omega)) shapeCasts_S8x128_S8x128⟩

/-- The stores of the scales into the output block. -/
def scaleOutStores : List (View.Piece (Elt F) S1x1x512 .f32) :=
  downFrom 4 fun b hb => ⟨Rect.unit (s := S1x1x512) ![0, 0, 128 * b] S1x1x128.size (scaleOut_inb hb),
    shapeCast S1x1x128 (extractStridedSlice S1x128 ![0, 0] (scaleOf a1 h1 a2 h2 x g (128 * b) (by omega))
      slices_S8x128_o0_0_S1x128) shapeCasts_S1x128_S1x1x128⟩

variable (a4 : Memref sig .tc .vmem S3072x2304 .fp8e4m3) (h4 : a4.IsWhole) (a5 : Memref sig .tc .vmem S1x2304 .f32) (h5 : a5.IsWhole)

theorem w_inb {m : ℕ} (hm : m < 9) : ∀ d, (![0, 256 * m] : Fin 2 → ℕ) d + S3072x256.size d ≤ S3072x2304.size d := by
  intro d; fin_cases d <;> simp [S3072x256, S3072x2304]; omega

theorem wtRow_inb {m : ℕ} (hm : m < 9) : ∀ d, (![256 * m, 0] : Fin 2 → ℕ) d + S256x3072.size d ≤ S2304x3072.size d := by
  intro d; fin_cases d <;> simp [S256x3072, S2304x3072]; omega

theorem wsbCol_inb {m : ℕ} (hm : m < 4) : ∀ d, (![0, 128 * m] : Fin 2 → ℕ) d + S2304x128.size d ≤ S2304x512.size d := by
  intro d; fin_cases d <;> simp [S2304x128, S2304x512]; omega

/-- The stores of the weights transposed: the unit matrix times 256 columns at a time. -/
def wtStores (w : Vec F S3072x2304 .fp8e4m3) : List (View.Piece (Elt F) S2304x3072 .fp8e4m3) :=
  downFrom 9 fun m hm => ⟨Rect.unit (s := S2304x3072) ![256 * m, 0] S256x3072.size (wtRow_inb hm),
    shapeCast S256x3072 (truncf .fp8e4m3 (matmul dot_S256x256_S3072x256_S256x3072_1_1_0_0_n_n none k0_pay3
      (View.readAt (Elt F) a4.view (Rect.unit (s := S3072x2304) ![0, 256 * m] S3072x256.size (w_inb hm)).toLoadRect (h4.unread w))
      (constant S256x3072 .f32 0x00000000#32 : FVec F S256x3072 .f32)) bitsLt_fp8e4m3_f32 : FVec F S256x3072 .fp8e4m3)
      shapeCasts_S256x3072_S256x3072⟩

/-- The stores of the weights' scales, every column the scales. -/
def wsbStores (ws : Vec F S1x2304 .f32) : List (View.Piece (Elt F) S2304x512 .f32) :=
  downFrom 4 fun m hm => ⟨Rect.unit (s := S2304x512) ![0, 128 * m] S2304x128.size (wsbCol_inb hm),
    shapeCast S2304x128 (transpose S2304x128 [1, 0] (broadcastTo S128x2304 (shapeCast S1x2304
      (shapeCast S1x2304 (View.readAt (Elt F) a5.view (Rect.unit (s := S1x2304) ![0, 0] S1x2304.size inb_S1x2304_S1x2304_0_0).toLoadRect (h5.unread ws))
        shapeCasts_S1x2304_S1x2304 : FVec F S1x2304 .f32)
      shapeCasts_S1x2304_S1x2304 : FVec F S1x2304 .f32) broadcasts_S1x2304_S128x2304 : FVec F S128x2304 .f32) transposes_S128x2304_p1_0_S2304x128)
      shapeCasts_S2304x128_S2304x128⟩

end Cert.KernelIdeal.Body

end
-- ==== Proof.FirstBlocks.lean ====
/-
What the first grid point's run names, block by block, is the arithmetic of `Lane.lean`.
-/
module

public import proofs.«01_k».proof.Proof.RunFirst
public import proofs.«01_k».proof.Proof.Tiles

@[expose] public section

set_option maxRecDepth 16384

noncomputable section

namespace Cert.KernelIdeal.Body

open Idealize.ShloMosaic Idealize.ShloMosaic.TcCoe
open Cert.KernelIdeal Cert.KernelIdeal.Gen

variable {F : FTy → Type} [FloatOps F] [Named F]
variable (c : Dev nD) (i : grid0.Coords)
    (arg1 : Memref sig .tc .vmem S512x3072 .bf16) (harg1 : arg1.IsWhole) (arg2 : Memref sig .tc .vmem S1x3072 .f32) (harg2 : arg2.IsWhole) (arg3 : Memref sig .tc .vmem S6x2048 .i32) (harg3 : arg3.IsWhole) (arg4 : Memref sig .tc .vmem S3072x2304 .fp8e4m3) (harg4 : arg4.IsWhole) (arg5 : Memref sig .tc .vmem S1x2304 .f32) (harg5 : arg5.IsWhole) (arg6 : Memref sig .tc .vmem S48x512 .f32) (harg6 : arg6.IsWhole) (arg7 : Memref sig .tc .vmem S1x8x12x8x512 .bf16) (harg7 : arg7.IsWhole) (arg8 : Memref sig .tc .vmem S1x8x12x8x512 .bf16) (harg8 : arg8.IsWhole) (arg9 : Memref sig .tc .vmem S1x8x12x8x512 .bf16) (harg9 : arg9.IsWhole) (arg10 : Memref sig .tc .vmem S512x3072 .fp8e4m3) (harg10 : arg10.IsWhole) (arg11 : Memref sig .tc .vmem S1x1x512 .f32) (harg11 : arg11.IsWhole) (arg12 : Memref sig .tc .vmem S2304x3072 .fp8e4m3) (harg12 : arg12.IsWhole) (arg13 : Memref sig .tc .vmem S2304x512 .f32) (harg13 : arg13.IsWhole) (arg14 : Memref sig .tc .vmem S512x3072 .f32) (harg14 : arg14.IsWhole) (arg15 : Memref sig .tc .vmem S2x512x3072 .fp8e4m3) (harg15 : arg15.IsWhole) (arg16 : Memref sig .tc .vmem S8x512 .f32) (harg16 : arg16.IsWhole)
    (hc0 : k0_cond1 i = 1#1) (hc1 : ¬k0_cond2 i = 1#1)
    (x0 : Vec F S512x3072 .bf16) (x1 : Vec F S1x3072 .f32) (x2 : Vec F S6x2048 .i32) (x3 : Vec F S3072x2304 .fp8e4m3) (x4 : Vec F S1x2304 .f32) (x5 : Vec F S48x512 .f32) (y7 : Vec F S1x8x12x8x512 .bf16) (y8 : Vec F S1x8x12x8x512 .bf16) (y9 : Vec F S1x8x12x8x512 .bf16) (cs : Vec F S2x512x3072 .fp8e4m3)

/-- The stores of normalised rows, block by block. -/
def firstH : ℕ → List (View.Piece (Elt F) S512x3072 .f32) :=
  pick4 (runFirst.sl.H14_24 c arg1 harg1 arg2 harg2 x0 x1) (runFirst.sl.H14_48 c arg1 harg1 arg2 harg2 x0 x1) (runFirst.sl.H14_72 c arg1 harg1 arg2 harg2 x0 x1) (runFirst.sl.H14_96 c arg1 harg1 arg2 harg2 x0 x1)

/-- The inverse scales, block by block. -/
def firstInv : ℕ → FVec F S128x128 .f32 :=
  pick4 (runFirst.sl.v980 c arg1 harg1 arg2 harg2 x0 x1) (runFirst.sl.v1967 c arg1 harg1 arg2 harg2 x0 x1) (runFirst.sl.v2954 c arg1 harg1 arg2 harg2 x0 x1) (runFirst.sl.v3713 c arg1 harg1 arg2 harg2 x0 x1)

theorem firstH_eq (b : ℕ) (hb : b < 4) : firstH c arg1 harg1 arg2 harg2 x0 x1 b = hStores arg1 harg1 arg2 harg2 x0 x1 (24 * b + 24) (by omega) := by
  match b, hb with
  | 0, _ => rfl
  | 1, _ => rfl
  | 2, _ => rfl
  | 3, _ => rfl

theorem firstInv_eq (b : ℕ) (hb : b < 4) : firstInv c arg1 harg1 arg2 harg2 x0 x1 b = invOf arg1 harg1 arg2 harg2 x0 x1 (128 * b) (by omega) := by
  match b, hb with
  | 0, _ => rfl
  | 1, _ => rfl
  | 2, _ => rfl
  | 3, _ => rfl

theorem first_codes : (runFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 y7 y8 y9 cs).1 = cStores arg14 (firstH c arg1 harg1 arg2 harg2 x0 x1) (firstInv c arg1 harg1 arg2 harg2 x0 x1) 96 (by decide) := rfl

theorem first_scaleOut : (runFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 y7 y8 y9 cs).2.1 = scaleOutStores arg1 harg1 arg2 harg2 x0 x1 := rfl

theorem first_h : (runFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 y7 y8 y9 cs).2.2.2.2.1 = hStores arg1 harg1 arg2 harg2 x0 x1 96 (by decide) := rfl

theorem first_slot : (runFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 y7 y8 y9 cs).2.2.2.2.2.1 = slotStores arg14 ((i 0).val % 2) (Nat.mod_lt _ (by decide)) (firstH c arg1 harg1 arg2 harg2 x0 x1) (firstInv c arg1 harg1 arg2 harg2 x0 x1) 96 (by decide) := rfl

theorem first_scale : (runFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 y7 y8 y9 cs).2.2.2.2.2.2.1 = scaleStores arg1 harg1 arg2 harg2 x0 x1 := rfl

theorem first_wt : (runFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 y7 y8 y9 cs).2.2.1 = wtStores arg4 harg4 x3 := rfl

theorem first_wsb : (runFirst (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 y7 y8 y9 cs).2.2.2.1 = wsbStores arg5 harg5 x4 := rfl

end Cert.KernelIdeal.Body

end
-- ==== Proof.Project.lean ====
/-
The projection of a tile, written once: a chunk of four heads of the product, its rescaling, the rotary embedding, and the
stores of the heads. Every definition is over any float family.
-/
module

public import proofs.«01_k».proof.Proof.Tiles

@[expose] public section

noncomputable section

namespace Cert.KernelIdeal.Body

open Idealize.ShloMosaic Idealize.ShloMosaic.TcCoe
open Cert.KernelIdeal Cert.KernelIdeal.Gen

variable {F : FTy → Type} [FloatOps F] [Named F]

/-- The angles of a tile: its positions times the frequencies. -/
def angles (pos : Vec F S1x512 .i32) (fr : Vec F S48x512 .f32) : FVec F S48x512 .f32 :=
  mulf (broadcastTo S48x512 (sitofp .f32 pos : FVec F S1x512 .f32) broadcasts_S1x512_S48x512)
    (shapeCast S48x512 fr shapeCasts_S48x512_S48x512 : FVec F S48x512 .f32)

/-- Cosines times scales. -/
def cosT (pos : Vec F S1x512 .i32) (fr : Vec F S48x512 .f32) (xs : Vec F S1x512 .f32) : FVec F S48x512 .f32 :=
  mulf (cos (angles pos fr)) (broadcastTo S48x512 xs broadcasts_S1x512_S48x512 : FVec F S48x512 .f32)

/-- Sines times scales. -/
def sinT (pos : Vec F S1x512 .i32) (fr : Vec F S48x512 .f32) (xs : Vec F S1x512 .f32) : FVec F S48x512 .f32 :=
  mulf (sin (angles pos fr)) (broadcastTo S48x512 xs broadcasts_S1x512_S48x512 : FVec F S48x512 .f32)

/-- Four heads of the product, times the weights' scales. -/
def chunk (w : Vec F S384x3072 .fp8e4m3) (codes : FVec F S512x3072 .fp8e4m3) (ws : Vec F S384x512 .f32) : FVec F S384x512 .f32 :=
  mulf (matmul dot_S384x3072_S512x3072_S384x512_1_1_0_0_n_n none w codes (constant S384x512 .f32 0x00000000#32 : FVec F S384x512 .f32)) ws

/-- One head of a chunk. -/
def head (t : FVec F S384x512 .f32) : ℕ → FVec F S96x512 .f32
  | 0 => extractStridedSlice S96x512 ![0, 0] t slices_S384x512_o0_0_S96x512
  | 1 => extractStridedSlice S96x512 ![96, 0] t slices_S384x512_o96_0_S96x512
  | 2 => extractStridedSlice S96x512 ![192, 0] t slices_S384x512_o192_0_S96x512
  | _ => extractStridedSlice S96x512 ![288, 0] t slices_S384x512_o288_0_S96x512

/-- The first half of a head. -/
def half1 (t : FVec F S96x512 .f32) : FVec F S48x512 .f32 := extractStridedSlice S48x512 ![0, 0] t slices_S96x512_o0_0_S48x512

/-- The second half of a head. -/
def half2 (t : FVec F S96x512 .f32) : FVec F S48x512 .f32 := extractStridedSlice S48x512 ![48, 0] t slices_S96x512_o48_0_S48x512

/-- Half a head as six rows of tiles. -/
def halfTiles (t : FVec F S48x512 .f32) : FVec F S1x1x6x8x512 .bf16 :=
  shapeCast S1x1x6x8x512 (truncf .bf16 (shapeCast S6x8x512 t shapeCasts_S48x512_S6x8x512 : FVec F S6x8x512 .f32) bitsLt_bf16_f32 :
    FVec F S6x8x512 .bf16) shapeCasts_S6x8x512_S1x1x6x8x512

/-- The two halves of a head, rotated. -/
def rotated (cs sn : FVec F S48x512 .f32) (t : FVec F S96x512 .f32) (second : Bool) : FVec F S1x1x6x8x512 .bf16 :=
  halfTiles (cond second (addf (mulf (half2 t) cs) (mulf (half1 t) sn)) (subf (mulf (half1 t) cs) (mulf (half2 t) sn)))

/-- A head without rotation, times the scales, as twelve rows of tiles. -/
def plainHead (xs : Vec F S1x512 .f32) (t : FVec F S96x512 .f32) : FVec F S1x1x12x8x512 .bf16 :=
  shapeCast S1x1x12x8x512 (truncf .bf16 (shapeCast S12x8x512 (mulf t (broadcastTo S96x512 xs broadcasts_S1x512_S96x512 : FVec F S96x512 .f32))
    shapeCasts_S96x512_S12x8x512 : FVec F S12x8x512 .f32) bitsLt_bf16_f32 : FVec F S12x8x512 .bf16) shapeCasts_S12x8x512_S1x1x12x8x512

theorem wt_inb {c : ℕ} (hc : c < 6) : ∀ d, (![384 * c, 0] : Fin 2 → ℕ) d + S384x3072.size d ≤ S2304x3072.size d := by
  intro d; fin_cases d <;> simp [S384x3072, S2304x3072]; omega

theorem wsb_inb {c : ℕ} (hc : c < 6) : ∀ d, (![384 * c, 0] : Fin 2 → ℕ) d + S384x512.size d ≤ S2304x512.size d := by
  intro d; fin_cases d <;> simp [S384x512, S2304x512]; omega

theorem half_inb {m : ℕ} (hm : m < 16) :
    ∀ d, (![0, m / 2, 6 * (m % 2), 0, 0] : Fin 5 → ℕ) d + S1x1x6x8x512.size d ≤ S1x8x12x8x512.size d := by
  intro d; fin_cases d <;> simp [S1x1x6x8x512, S1x8x12x8x512] <;> omega

theorem head_inb {m : ℕ} (hm : m < 8) :
    ∀ d, (![0, m, 0, 0, 0] : Fin 5 → ℕ) d + S1x1x12x8x512.size d ≤ S1x8x12x8x512.size d := by
  intro d; fin_cases d <;> simp [S1x1x12x8x512, S1x8x12x8x512]; omega

/-- The stores of eight heads rotated, half by half; `t c` is chunk `c`, and the heads are those of chunks `c0` and `c0 + 1`. -/
def rotatedStores (cs sn : FVec F S48x512 .f32) (t : ℕ → FVec F S384x512 .f32) (c0 : ℕ) : List (View.Piece (Elt F) S1x8x12x8x512 .bf16) :=
  downFrom 16 fun m hm => ⟨Rect.unit (s := S1x8x12x8x512) ![0, m / 2, 6 * (m % 2), 0, 0] S1x1x6x8x512.size (half_inb hm),
    rotated cs sn (head (t (c0 + m / 2 / 4)) (m / 2 % 4)) (Nat.beq (m % 2) 1)⟩

/-- The stores of eight heads without rotation. -/
def plainStores (xs : Vec F S1x512 .f32) (t : ℕ → FVec F S384x512 .f32) (c0 : ℕ) : List (View.Piece (Elt F) S1x8x12x8x512 .bf16) :=
  downFrom 8 fun m hm => ⟨Rect.unit (s := S1x8x12x8x512) ![0, m, 0, 0, 0] S1x1x12x8x512.size (head_inb hm),
    plainHead xs (head (t (c0 + m / 4)) (m % 4))⟩

variable (a3 : Memref sig .tc .vmem S6x2048 .i32) (h3 : a3.IsWhole) (a6 : Memref sig .tc .vmem S48x512 .f32) (h6 : a6.IsWhole)
  (a12 : Memref sig .tc .vmem S2304x3072 .fp8e4m3) (h12 : a12.IsWhole) (a13 : Memref sig .tc .vmem S2304x512 .f32) (h13 : a13.IsWhole)
  (a15 : Memref sig .tc .vmem S2x512x3072 .fp8e4m3) (h15 : a15.IsWhole) (a16 : Memref sig .tc .vmem S8x512 .f32) (h16 : a16.IsWhole)

/-- The positions of the tile projected, as the body loads them. -/
def posL (i : grid0.Coords) (hc : k0_cond2 i = 1#1) (pos : Vec F S6x2048 .i32) : Vec F S1x512 .i32 :=
  View.readAt (Elt F) a3.view (Rect.unit (s := S6x2048) (k0_off98 i) S1x512.size (k0_off98_inb i hc)).toLoadRect (h3.unread pos)

/-- The frequencies, as the body loads them. -/
def freqL (fr : Vec F S48x512 .f32) : Vec F S48x512 .f32 :=
  View.readAt (Elt F) a6.view (Rect.unit (s := S48x512) ![0, 0] S48x512.size inb_S48x512_S48x512_0_0).toLoadRect (h6.unread fr)

/-- The scales of the tile projected, as the body loads them. -/
def scaleL (xr : Vec F S8x512 .f32) : Vec F S1x512 .f32 :=
  View.readAt (Elt F) a16.view (Rect.unit (s := S8x512) ![0, 0] S1x512.size inb_S8x512_S1x512_0_0).toLoadRect (h16.unread xr)

/-- The codes of the tile projected, as the body loads them. -/
def codesL (i : grid0.Coords) (hc : k0_cond2 i = 1#1) (cs : Vec F S2x512x3072 .fp8e4m3) : FVec F S512x3072 .fp8e4m3 :=
  shapeCast S512x3072 (View.readAt (Elt F) a15.view (Rect.unit (s := S2x512x3072) (k0_off99 i) S1x512x3072.size (k0_off99_inb i hc)).toLoadRect
    (h15.unread cs)) shapeCasts_S1x512x3072_S512x3072

/-- Chunk `c` of the product, as the body computes it. -/
def chunkL (i : grid0.Coords) (hc : k0_cond2 i = 1#1) (wt : Vec F S2304x3072 .fp8e4m3) (wsb : Vec F S2304x512 .f32)
    (cs : Vec F S2x512x3072 .fp8e4m3) (c : ℕ) (h : c < 6) : FVec F S384x512 .f32 :=
  chunk (View.readAt (Elt F) a12.view (Rect.unit (s := S2304x3072) ![384 * c, 0] S384x3072.size (wt_inb h)).toLoadRect (h12.unread wt))
    (codesL a15 h15 i hc cs)
    (View.readAt (Elt F) a13.view (Rect.unit (s := S2304x512) ![384 * c, 0] S384x512.size (wsb_inb h)).toLoadRect (h13.unread wsb))

end Cert.KernelIdeal.Body

end
-- ==== Proof.LaterBlocks.lean ====
/-
What a later grid point's run leaves in each buffer, as the lists of `Tiles.lean` and `Project.lean`.
-/
module

public import proofs.«01_k».proof.Proof.RunLater
public import proofs.«01_k».proof.Proof.Project

@[expose] public section

set_option maxRecDepth 16384

noncomputable section

namespace Cert.KernelIdeal.Body

open Idealize.ShloMosaic Idealize.ShloMosaic.TcCoe
open Cert.KernelIdeal Cert.KernelIdeal.Gen

variable {F : FTy → Type} [FloatOps F] [Named F]
variable (c : Dev nD) (i : grid0.Coords)
    (arg1 : Memref sig .tc .vmem S512x3072 .bf16) (harg1 : arg1.IsWhole) (arg2 : Memref sig .tc .vmem S1x3072 .f32) (harg2 : arg2.IsWhole) (arg3 : Memref sig .tc .vmem S6x2048 .i32) (harg3 : arg3.IsWhole) (arg4 : Memref sig .tc .vmem S3072x2304 .fp8e4m3) (harg4 : arg4.IsWhole) (arg5 : Memref sig .tc .vmem S1x2304 .f32) (harg5 : arg5.IsWhole) (arg6 : Memref sig .tc .vmem S48x512 .f32) (harg6 : arg6.IsWhole) (arg7 : Memref sig .tc .vmem S1x8x12x8x512 .bf16) (harg7 : arg7.IsWhole) (arg8 : Memref sig .tc .vmem S1x8x12x8x512 .bf16) (harg8 : arg8.IsWhole) (arg9 : Memref sig .tc .vmem S1x8x12x8x512 .bf16) (harg9 : arg9.IsWhole) (arg10 : Memref sig .tc .vmem S512x3072 .fp8e4m3) (harg10 : arg10.IsWhole) (arg11 : Memref sig .tc .vmem S1x1x512 .f32) (harg11 : arg11.IsWhole) (arg12 : Memref sig .tc .vmem S2304x3072 .fp8e4m3) (harg12 : arg12.IsWhole) (arg13 : Memref sig .tc .vmem S2304x512 .f32) (harg13 : arg13.IsWhole) (arg14 : Memref sig .tc .vmem S512x3072 .f32) (harg14 : arg14.IsWhole) (arg15 : Memref sig .tc .vmem S2x512x3072 .fp8e4m3) (harg15 : arg15.IsWhole) (arg16 : Memref sig .tc .vmem S8x512 .f32) (harg16 : arg16.IsWhole)
    (hc0 : ¬k0_cond1 i = 1#1) (hc1 : k0_cond2 i = 1#1)
    (x0 : Vec F S512x3072 .bf16) (x1 : Vec F S1x3072 .f32) (x2 : Vec F S6x2048 .i32) (x3 : Vec F S3072x2304 .fp8e4m3) (x4 : Vec F S1x2304 .f32) (x5 : Vec F S48x512 .f32) (wt : Vec F S2304x3072 .fp8e4m3) (wsb : Vec F S2304x512 .f32) (cs : Vec F S2x512x3072 .fp8e4m3) (xr : Vec F S8x512 .f32)

/-- The chunks of the product. -/
def laterChunk (n : ℕ) : FVec F S384x512 .f32 :=
  if h : n < 6 then chunkL arg12 harg12 arg13 harg13 arg15 harg15 i hc1 wt wsb cs n h else fun _ => Scalar.ofBits .f32 0#32

/-- The stores of normalised rows, block by block. -/
def laterH : ℕ → List (View.Piece (Elt F) S512x3072 .f32) :=
  pick4 (runLater.sl.H14_24 c arg1 harg1 arg2 harg2 x0 x1) (runLater.sl.H14_48 c arg1 harg1 arg2 harg2 x0 x1) (runLater.sl.H14_72 c arg1 harg1 arg2 harg2 x0 x1) (runLater.sl.H14_96 c arg1 harg1 arg2 harg2 x0 x1)

/-- The inverse scales, block by block. -/
def laterInv : ℕ → FVec F S128x128 .f32 :=
  pick4 (runLater.sl.v1032 c arg1 harg1 arg2 harg2 x0 x1) (runLater.sl.v2099 c arg1 harg1 arg2 harg2 x0 x1) (runLater.sl.v3166 c arg1 harg1 arg2 harg2 x0 x1) (runLater.sl.v4005 c arg1 harg1 arg2 harg2 x0 x1)

theorem laterH_eq (b : ℕ) (hb : b < 4) : laterH c arg1 harg1 arg2 harg2 x0 x1 b = hStores arg1 harg1 arg2 harg2 x0 x1 (24 * b + 24) (by omega) := by
  match b, hb with
  | 0, _ => rfl
  | 1, _ => rfl
  | 2, _ => rfl
  | 3, _ => rfl

theorem laterInv_eq (b : ℕ) (hb : b < 4) : laterInv c arg1 harg1 arg2 harg2 x0 x1 b = invOf arg1 harg1 arg2 harg2 x0 x1 (128 * b) (by omega) := by
  match b, hb with
  | 0, _ => rfl
  | 1, _ => rfl
  | 2, _ => rfl
  | 3, _ => rfl

theorem later_q : (runLater (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 wt wsb cs xr).1 = rotatedStores (cosT (posL arg3 harg3 i hc1 x2) (freqL arg6 harg6 x5) (scaleL arg16 harg16 xr)) (sinT (posL arg3 harg3 i hc1 x2) (freqL arg6 harg6 x5) (scaleL arg16 harg16 xr)) (laterChunk i arg12 harg12 arg13 harg13 arg15 harg15 hc1 wt wsb cs) 0 := rfl

theorem later_k : (runLater (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 wt wsb cs xr).2.1 = rotatedStores (cosT (posL arg3 harg3 i hc1 x2) (freqL arg6 harg6 x5) (scaleL arg16 harg16 xr)) (sinT (posL arg3 harg3 i hc1 x2) (freqL arg6 harg6 x5) (scaleL arg16 harg16 xr)) (laterChunk i arg12 harg12 arg13 harg13 arg15 harg15 hc1 wt wsb cs) 2 := rfl

theorem later_v : (runLater (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 wt wsb cs xr).2.2.1 = plainStores (scaleL arg16 harg16 xr) (laterChunk i arg12 harg12 arg13 harg13 arg15 harg15 hc1 wt wsb cs) 4 := rfl

theorem later_codes : (runLater (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 wt wsb cs xr).2.2.2.1 = cStores arg14 (laterH c arg1 harg1 arg2 harg2 x0 x1) (laterInv c arg1 harg1 arg2 harg2 x0 x1) 96 (by decide) := rfl

theorem later_scaleOut : (runLater (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 wt wsb cs xr).2.2.2.2.1 = scaleOutStores arg1 harg1 arg2 harg2 x0 x1 := rfl

theorem later_slot : (runLater (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 wt wsb cs xr).2.2.2.2.2.2.1 = slotStores arg14 ((i 0).val % 2) (Nat.mod_lt _ (by decide)) (laterH c arg1 harg1 arg2 harg2 x0 x1) (laterInv c arg1 harg1 arg2 harg2 x0 x1) 96 (by decide) := rfl

theorem later_scale : (runLater (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 wt wsb cs xr).2.2.2.2.2.2.2.1 = scaleStores arg1 harg1 arg2 harg2 x0 x1 := rfl

end Cert.KernelIdeal.Body

end
-- ==== Proof.Scale.lean ====
/-
The per-token power of two, as the kernel finds it (a ladder of exact comparisons and scalings that counts the exponent)
and as the reference states it (the least power of two above the value), are one number. Extended reals throughout; a
single token's value `y`, no vectors.
-/
module

public import Idealize.ShloMosaic.Lib.ValueIdx
public import Idealize.ShloMosaic.Lib.IdealHost

@[expose] public section

noncomputable section

namespace Cert.Scale

open Idealize.ShloMosaic

/-- `2 ^ n`. -/
def p2 (n : ℤ) : EReal := ((2 : ℝ) ^ n : ℝ)

theorem p2_pos (n : ℤ) : 0 < p2 n := EReal.coe_pos.2 (by positivity)
theorem p2_lt_top (n : ℤ) : p2 n < ⊤ := EReal.coe_lt_top _
theorem p2_mul (m n : ℤ) : p2 m * p2 n = p2 (m + n) := by
  unfold p2; rw [← EReal.coe_mul, zpow_add₀ (by norm_num)]
theorem p2_lt {m n : ℤ} : p2 m < p2 n ↔ m < n := by
  unfold p2; rw [EReal.coe_lt_coe_iff]; exact zpow_lt_zpow_iff_right₀ (by norm_num)
theorem p2_le {m n : ℤ} : p2 m ≤ p2 n ↔ m ≤ n := by
  unfold p2; rw [EReal.coe_le_coe_iff]; exact zpow_le_zpow_iff_right₀ (by norm_num)

/-- Scaling by a power of two keeps `≤`. -/
theorem mul_p2_le {x y : EReal} (n : ℤ) (h : x ≤ y) : x * p2 n ≤ y * p2 n :=
  mul_le_mul_of_nonneg_right h (p2_pos n).le

theorem mul_p2_cancel (x : EReal) (n : ℤ) : x * p2 n * p2 (-n) = x := by
  rw [mul_assoc, p2_mul, add_neg_cancel, show p2 0 = 1 by simp [p2], mul_one]

/-- Scaling by a power of two keeps `<`. -/
theorem mul_p2_lt {x y : EReal} (n : ℤ) (h : x < y) : x * p2 n < y * p2 n := by
  refine lt_of_not_ge fun hc => absurd h (not_lt.2 ?_)
  have := mul_p2_le (-n) hc
  rwa [mul_p2_cancel, mul_p2_cancel] at this

/-! ## The ladder -/

/-- One rung, `2 ^ s` down and `s` up where the value is at least `2 ^ s`. -/
def rungS (s : ℕ) (p : EReal × BitVec 32) : EReal × BitVec 32 :=
  if p2 s ≤ p.1 then (p.1 * p2 (-s), p.2 + BitVec.ofNat 32 s) else p

/-- The start of the ladder. -/
def startS (y : EReal) : EReal × BitVec 32 := if y < p2 0 then (y * p2 127, 0#32) else (y, 127#32)

/-- The seven rungs. -/
def ladderS (y : EReal) : EReal × BitVec 32 :=
  rungS 1 (rungS 2 (rungS 4 (rungS 8 (rungS 16 (rungS 32 (rungS 64 (startS y)))))))

/-- The exponent field. -/
def fieldS (y : EReal) : BitVec 32 := if (ladderS y).1 < p2 1 then (ladderS y).2 else 255#32

/-- What the ladder keeps: the value within `2 ^ m ≤ z < 2 ^ (m+1)` for an `m < w`, and `exponent + m = T`. -/
def Held (w T : ℕ) (p : EReal × BitVec 32) : Prop :=
  ∃ m e : ℕ, m < w ∧ p.2 = BitVec.ofNat 32 e ∧ e + m = T ∧ p2 m ≤ p.1 ∧ p.1 < p2 (m + 1)

theorem rungS_held {s T : ℕ} {p : EReal × BitVec 32} (h : Held (2 * s) T p) : Held s T (rungS s p) := by
  obtain ⟨m, e, hm, he, hT, hl, hu⟩ := h
  by_cases hs : s ≤ m
  · have hc : p2 s ≤ p.1 := le_trans (p2_le.2 (by omega)) hl
    rw [rungS, if_pos hc]
    refine ⟨m - s, e + s, by omega, ?_, by omega, ?_, ?_⟩
    · simp only [he, BitVec.ofNat_add]
    · have := mul_p2_le (-s) hl
      rw [p2_mul] at this
      rwa [show ((m - s : ℕ) : ℤ) = (m : ℤ) + -(s : ℤ) by omega]
    · have := mul_p2_lt (-s) hu
      rw [p2_mul] at this
      rwa [show ((m - s : ℕ) : ℤ) + 1 = (m : ℤ) + 1 + -(s : ℤ) by omega]
  · have hc : ¬ p2 s ≤ p.1 := not_le.2 (lt_of_lt_of_le hu (p2_le.2 (by omega)))
    rw [rungS, if_neg hc]
    exact ⟨m, e, by omega, he, hT, hl, hu⟩

theorem rungS_small {s : ℕ} {p : EReal × BitVec 32} (hs : 1 ≤ s) (h : p.1 < p2 1) : rungS s p = p :=
  if_neg (not_le.2 (lt_of_lt_of_le h (p2_le.2 (by omega))))

theorem rungS_large {s : ℕ} {p : EReal × BitVec 32} (h : p2 (2 * s : ℕ) ≤ p.1) : p2 s ≤ (rungS s p).1 := by
  have hc : p2 s ≤ p.1 := le_trans (p2_le.2 (by omega)) h
  rw [rungS, if_pos hc]
  have := mul_p2_le (-s) h
  rw [p2_mul] at this
  rwa [show ((2 * s : ℕ) : ℤ) + -(s : ℤ) = s by omega] at this

/-- Between `2 ^ n` and `2 ^ (n+1)` the field is `n + 127`. -/
theorem fieldS_normal {y : EReal} {n : ℤ} (h0 : -126 ≤ n) (h1 : n ≤ 127) (hl : p2 n ≤ y) (hu : y < p2 (n + 1)) :
    fieldS y = BitVec.ofNat 32 (n + 127).toNat := by
  have hs : Held 128 (n + 127).toNat (startS y) := by
    unfold startS
    by_cases hc : y < p2 0
    · rw [if_pos hc]
      have hn : n < 0 := p2_lt.1 (lt_of_le_of_lt hl hc)
      refine ⟨(n + 127).toNat, 0, by omega, rfl, by omega, ?_, ?_⟩
      · have := mul_p2_le 127 hl
        rw [p2_mul] at this
        rwa [show (((n + 127).toNat : ℕ) : ℤ) = n + 127 by omega]
      · have := mul_p2_lt 127 hu
        rw [p2_mul] at this
        rwa [show (((n + 127).toNat : ℕ) : ℤ) + 1 = n + 1 + 127 by omega]
    · rw [if_neg hc]
      have hn : 0 < n + 1 := p2_lt.1 (lt_of_le_of_lt (not_lt.1 hc) hu)
      refine ⟨n.toNat, 127, by omega, rfl, by omega, ?_, ?_⟩
      · rwa [show ((n.toNat : ℕ) : ℤ) = n by omega]
      · rwa [show ((n.toNat : ℕ) : ℤ) = n by omega]
  obtain ⟨m, e, hm, he, hT, -, hz⟩ : Held 1 (n + 127).toNat (ladderS y) :=
    rungS_held (s := 1) (rungS_held (s := 2) (rungS_held (s := 4) (rungS_held (s := 8) (rungS_held (s := 16)
      (rungS_held (s := 32) (rungS_held (s := 64) hs))))))
  obtain rfl : m = 0 := by omega
  rw [fieldS, if_pos (by simpa using hz), he, ← hT, Nat.add_zero]

/-- Below the least normal number the field is zero. -/
theorem fieldS_small {y : EReal} (h : y < p2 (-126)) : fieldS y = 0#32 := by
  have hc : y < p2 0 := lt_trans h (p2_lt.2 (by norm_num))
  have hs : startS y = (y * p2 127, 0#32) := if_pos hc
  have hz : y * p2 127 < p2 1 := by
    have := mul_p2_lt 127 h
    rwa [p2_mul] at this
  have hl : ladderS y = (y * p2 127, 0#32) := by
    unfold ladderS
    rw [hs]
    rw [rungS_small (s := 64) (by norm_num) hz, rungS_small (s := 32) (by norm_num) hz,
      rungS_small (s := 16) (by norm_num) hz, rungS_small (s := 8) (by norm_num) hz, rungS_small (s := 4) (by norm_num) hz,
      rungS_small (s := 2) (by norm_num) hz, rungS_small (s := 1) (by norm_num) hz]
  rw [fieldS, hl, if_pos hz]

/-- From `2 ^ 128` on the field is 255. -/
theorem fieldS_large {y : EReal} (h : p2 128 ≤ y) : fieldS y = 255#32 := by
  have hc : ¬ y < p2 0 := not_lt.2 (le_trans (p2_le.2 (by norm_num)) h)
  have hs : p2 128 ≤ (startS y).1 := by rw [startS, if_neg hc]; exact h
  have hl : p2 1 ≤ (ladderS y).1 :=
    rungS_large (s := 1) (rungS_large (s := 2) (rungS_large (s := 4) (rungS_large (s := 8) (rungS_large (s := 16)
      (rungS_large (s := 32) (rungS_large (s := 64) hs))))))
  rw [fieldS, if_neg (not_lt.2 hl)]

/-! ## The two powers of two -/

/-- Is the field that of no normal number? -/
def specialS (e : BitVec 32) : Prop := e = 0#32 ∨ e = 255#32

instance (e : BitVec 32) : Decidable (specialS e) := by unfold specialS; infer_instance

/-- The power of two with field `e`, zero at the field zero. -/
def powerS (e : BitVec 32) : EReal := if e = 0#32 then 0 else Ideal.exp2 (((e - 127#32).toInt : ℝ) : EReal)

/-- The kernel's scale. -/
def scaleS (y : EReal) : EReal := powerS (if specialS (fieldS y) then 127#32 else fieldS y + 1#32)

/-- The kernel's inverse scale. -/
def invS (y : EReal) : EReal :=
  powerS (if specialS (fieldS y) then 127#32 else
    if (0#32).slt (253#32 - fieldS y) then 253#32 - fieldS y else 0#32)

theorem exp2_int (n : ℤ) : Ideal.exp2 (((n : ℤ) : ℝ) : EReal) = p2 n := by
  rw [Ideal.exp2_coe]; unfold p2
  exact congrArg _ (Real.rpow_intCast 2 n)

theorem powerS_127 : powerS 127#32 = p2 0 := by
  rw [powerS, if_neg (by decide), ← exp2_int]; rfl

/-- The field is that of no normal number exactly when `y` is in no normal range. -/
theorem scaleS_special {y : EReal} (h : y < p2 (-126) ∨ p2 128 ≤ y) : scaleS y = p2 0 ∧ invS y = p2 0 := by
  have hf : specialS (fieldS y) := h.elim (fun h => Or.inl (fieldS_small h)) fun h => Or.inr (fieldS_large h)
  rw [scaleS, invS, if_pos hf, if_pos hf]
  exact ⟨powerS_127, powerS_127⟩

theorem field_facts : ∀ k : Fin 254, ¬ specialS (BitVec.ofNat 32 (k.val + 1)) ∧ BitVec.ofNat 32 (k.val + 1) + 1#32 ≠ 0#32
    ∧ (BitVec.ofNat 32 (k.val + 1) + 1#32 - 127#32).toInt = (k.val : ℤ) - 125
    ∧ (252 ≤ k.val → (0#32).slt (253#32 - BitVec.ofNat 32 (k.val + 1)) = false)
    ∧ (k.val < 252 → (0#32).slt (253#32 - BitVec.ofNat 32 (k.val + 1)) = true
        ∧ 253#32 - BitVec.ofNat 32 (k.val + 1) ≠ 0#32
        ∧ (253#32 - BitVec.ofNat 32 (k.val + 1) - 127#32).toInt = 125 - (k.val : ℤ)) := by
  decide +kernel

theorem scaleS_normal {y : EReal} {n : ℤ} (h0 : -126 ≤ n) (h1 : n ≤ 127) (hl : p2 n ≤ y) (hu : y < p2 (n + 1)) :
    scaleS y = p2 (n + 1) ∧ invS y = if 126 ≤ n then 0 else p2 (-(n + 1)) := by
  have hk : (n + 126).toNat < 254 := by omega
  have hf : fieldS y = BitVec.ofNat 32 ((⟨(n + 126).toNat, hk⟩ : Fin 254).val + 1) := by
    rw [fieldS_normal h0 h1 hl hu]
    exact congrArg _ (show (n + 127).toNat = (n + 126).toNat + 1 by omega)
  obtain ⟨f1, f2, f3, f4, f5⟩ := field_facts ⟨(n + 126).toNat, hk⟩
  constructor
  · rw [scaleS, hf, if_neg f1, powerS, if_neg f2, f3, exp2_int]
    exact congrArg p2 (show ((n + 126).toNat : ℤ) - 125 = n + 1 by omega)
  · rw [invS, hf, if_neg f1]
    by_cases hn : 126 ≤ n
    · rw [f4 (show 252 ≤ (n + 126).toNat by omega), if_pos hn]; rfl
    · obtain ⟨g1, g2, g3⟩ := f5 (show (n + 126).toNat < 252 by omega)
      rw [g1, if_pos rfl, powerS, if_neg g2, g3, exp2_int, if_neg hn]
      exact congrArg p2 (show 125 - ((n + 126).toNat : ℤ) = -(n + 1) by omega)

/-! ## The reference's scale -/

/-- What the reference minimises over: `2 ^ (j - 125)` where it is above `y` and `y` is at least the least normal. -/
def candidate (y : EReal) (j : Fin 254) : EReal :=
  if y < p2 ((j.val : ℤ) - 125) ∧ p2 (-126) ≤ y then p2 ((j.val : ℤ) - 125) else ⊤

/-- The least of them, `⊤` where there is none. -/
def leastR (y : EReal) : EReal := (Finset.univ : Finset (Fin 254)).fold min ⊤ (candidate y)

/-- The reference's scale from that. -/
def scaleR (l : EReal) : EReal := if l < ⊤ then l else 1

/-- The reference's inverse scale. -/
def invR (l : EReal) : EReal := if p2 126 < scaleR l then 0 else Ideal.div 1 (scaleR l)

theorem p2_zero : p2 0 = 1 := by simp [p2]

theorem div_p2 (n : ℤ) : Ideal.div 1 (p2 n) = p2 (-n) := by
  unfold Ideal.div
  rw [if_neg (p2_pos n).ne', one_mul]
  unfold p2
  rw [zpow_neg, EReal.coe_inv]

theorem leastR_special {y : EReal} (h : y < p2 (-126) ∨ p2 128 ≤ y) : leastR y = ⊤ := by
  refine le_antisymm le_top (Finset.le_fold_min _ |>.2 ⟨le_rfl, fun j _ => ?_⟩)
  refine le_of_eq (if_neg ?_).symm
  rintro ⟨ha, hb⟩
  rcases h with h | h
  · exact absurd h (not_lt.2 hb)
  · have := p2_lt.1 (lt_of_le_of_lt h ha)
    have := j.isLt
    omega

theorem leastR_normal {y : EReal} {n : ℤ} (h0 : -126 ≤ n) (h1 : n ≤ 127) (hl : p2 n ≤ y) (hu : y < p2 (n + 1)) :
    leastR y = p2 (n + 1) := by
  have hb : p2 (-126) ≤ y := le_trans (p2_le.2 h0) hl
  refine le_antisymm (Finset.fold_min_le _ |>.2 (Or.inr ⟨⟨(n + 126).toNat, by omega⟩, Finset.mem_univ _, ?_⟩))
    (Finset.le_fold_min _ |>.2 ⟨le_top, fun j _ => ?_⟩)
  · have e : (((n + 126).toNat : ℕ) : ℤ) - 125 = n + 1 := by omega
    unfold candidate
    simp only [e]
    rw [if_pos ⟨hu, hb⟩]
  · unfold candidate
    split_ifs with hc
    · have := p2_lt.1 (lt_of_le_of_lt hl hc.1)
      exact p2_le.2 (by omega)
    · exact le_top

/-- A value is below the normal range, above it, or in one binade of it. -/
theorem cases (y : EReal) : (y < p2 (-126) ∨ p2 128 ≤ y)
    ∨ ∃ n : ℤ, -126 ≤ n ∧ n ≤ 127 ∧ p2 n ≤ y ∧ y < p2 (n + 1) := by
  by_cases h0 : y < p2 (-126)
  · exact Or.inl (Or.inl h0)
  by_cases h1 : p2 128 ≤ y
  · exact Or.inl (Or.inr h1)
  rw [not_lt] at h0; rw [not_le] at h1
  right
  have key : ∀ k : ℕ, y < p2 (-126 + k) → k ≤ 254 → ∃ n : ℤ, -126 ≤ n ∧ n ≤ 127 ∧ p2 n ≤ y ∧ y < p2 (n + 1) := by
    intro k
    induction k with
    | zero => intro h _; exact absurd h (not_lt.2 (by simpa using h0))
    | succ k ih =>
      intro h hk
      by_cases hc : y < p2 (-126 + k)
      · exact ih hc (by omega)
      · exact ⟨-126 + k, by omega, by omega, not_lt.1 hc, by
          rwa [show (-126 : ℤ) + k + 1 = -126 + (k + 1 : ℕ) by push_cast; ring]⟩
  exact key 254 (by simpa using h1) le_rfl

/-- The kernel's scale is the reference's. -/
theorem scaleS_eq (y : EReal) : scaleS y = scaleR (leastR y) := by
  rcases cases y with h | ⟨n, h0, h1, hl, hu⟩
  · rw [(scaleS_special h).1, leastR_special h, scaleR, if_neg (lt_irrefl _), p2_zero]
  · rw [(scaleS_normal h0 h1 hl hu).1, leastR_normal h0 h1 hl hu, scaleR, if_pos (p2_lt_top _)]

/-- The kernel's inverse scale is the reference's. -/
theorem invS_eq (y : EReal) : invS y = invR (leastR y) := by
  unfold invR
  rw [← scaleS_eq]
  rcases cases y with h | ⟨n, h0, h1, hl, hu⟩
  · rw [(scaleS_special h).1, (scaleS_special h).2, if_neg (not_lt.2 (p2_le.2 (by norm_num))), div_p2]; rfl
  · rw [(scaleS_normal h0 h1 hl hu).1, (scaleS_normal h0 h1 hl hu).2]
    by_cases hn : 126 ≤ n
    · rw [if_pos hn, if_pos (p2_lt.2 (by omega))]
    · rw [if_neg hn, if_neg (not_lt.2 (p2_le.2 (by omega))), div_p2]

end Cert.Scale

end
-- ==== Proof.LaneValue.lean ====
/-
`Lane.lean`'s arithmetic over the extended reals, one token at a time: the inverse root mean square of a row, the greatest
magnitude of the normalised row, and the two powers of two of `Scale.lean`.
-/
module

public import proofs.«01_k».proof.Proof.Lane
public import proofs.«01_k».proof.Proof.Scale
public import Idealize.ShloMosaic.Lib.ValueLayout
public import Idealize.ShloMosaic.Lib.WholeRead
public import Idealize.ShloMosaic.Lib.KernelVsHost.SublaneAllReduce
public import Idealize.ShloMosaic.Lib.Pipeline.ValueKit.Acc
public import Idealize.ShloMosaic.Rules

@[expose] public section

set_option maxRecDepth 4096

noncomputable section

namespace Cert.KernelIdeal.Body

open Idealize.ShloMosaic Idealize.ShloMosaic.TcCoe Idealize.ShloMosaic.ValueIdx Idealize.ShloMosaic.SublaneAllReduce
open Cert.KernelIdeal Cert.KernelIdeal.Gen Cert.Scale
open Fin (sum_mul_add_fin)

/-! ## One row -/

/-- The inverse root mean square of a row. -/
def rowRms (f : Fin 3072 → EReal) : EReal :=
  Ideal.rsqrt ((∑ k, f k * f k) * ((1 / 3072 : ℝ) : EReal) + Ideal.ofBits .f32 0x358637BD#32)

/-- A row normalised and scaled by the gains. -/
def rowNorm (f g : Fin 3072 → EReal) (k : Fin 3072) : EReal := f k * rowRms f * g k

/-- A row's greatest magnitude over the greatest code. -/
def rowOver (f g : Fin 3072 → EReal) : EReal :=
  (Finset.univ.sup fun k => max (rowNorm f g k) (-(rowNorm f g k))) * Ideal.ofBits .f32 0x3B124925#32

/-- A row's codes. -/
def rowCode (f g : Fin 3072 → EReal) (k : Fin 3072) : EReal :=
  min (Ideal.ofBits .f32 0x43E00000#32) (max (Ideal.ofBits .f32 0xC3E00000#32) (rowNorm f g k * invS (rowOver f g)))

/-! ## Reductions over the lanes -/

theorem rowGroups_addf (p : FVec Ideal S128x128 .f32) (k : Fin 8) (t : Fin 128) :
    rowGroups addf (transpose S128x128 [1, 0] p transposes_S128x128_p1_0_S128x128) (ix2 k t)
      = ∑ g : Fin 16, p (ix2 t ⟨g.val * 8 + k.val, by omega⟩) := by
  have e : ∀ (o : ℕ) (h : S128x128.Slices ![o, 0] S8x128) (g : Fin 16), o = g.val * 8 →
      extractStridedSlice S8x128 ![o, 0] (transpose S128x128 [1, 0] p transposes_S128x128_p1_0_S128x128) h (ix2 k t)
        = p (ix2 t ⟨g.val * 8 + k.val, by omega⟩) := fun o h g ho =>
    (slice2_axis0_apply o _ h k t ⟨g.val * 8 + k.val, by omega⟩ (by simp [ho])).trans (transpose_ix2_apply p _ _ _)
  simp only [Fin.sum_univ_succ, Fin.sum_univ_zero, add_zero, ← add_assoc]
  unfold rowGroups
  simp only [addf_apply]
  rw [e 0 _ 0 rfl, e 8 _ 1 rfl, e 16 _ 2 rfl, e 24 _ 3 rfl, e 32 _ 4 rfl, e 40 _ 5 rfl, e 48 _ 6 rfl, e 56 _ 7 rfl, e 64 _ 8 rfl,
    e 72 _ 9 rfl, e 80 _ 10 rfl, e 88 _ 11 rfl, e 96 _ 12 rfl, e 104 _ 13 rfl, e 112 _ 14 rfl, e 120 _ 15 rfl]
  rfl

theorem laneReduce_addf (p : FVec Ideal S128x128 .f32) (r : Fin 8) (t : Fin 128) :
    laneReduce addf p (ix2 r t) = ∑ l : Fin 128, p (ix2 t l) := by
  have h1 : laneReduce addf p (ix2 r t) = combine8 (fun a b : EReal => a + b) fun k =>
      rowGroups addf (transpose S128x128 [1, 0] p transposes_S128x128_p1_0_S128x128) (ix2 k t) :=
    sublaneAllReduce_apply (fun a b : EReal => a + b) rotates_S8x128_d0
      (rowGroups addf (transpose S128x128 [1, 0] p transposes_S128x128_p1_0_S128x128)) r t
  rw [h1, ← sum_mul_add_fin 16 8 (fun l => p (ix2 t l)), Finset.sum_comm]
  rw [Finset.sum_congr rfl fun k _ => (rowGroups_addf p k t).symm, Fin.sum_univ_eight]
  simp only [combine8]
  ac_rfl

theorem rowGroups_maximumf (p : FVec Ideal S128x128 .f32) (k : Fin 8) (t : Fin 128) (b : EReal) :
    rowGroups maximumf (transpose S128x128 [1, 0] p transposes_S128x128_p1_0_S128x128) (ix2 k t) ≤ b
      ↔ ∀ g : Fin 16, p (ix2 t ⟨g.val * 8 + k.val, by omega⟩) ≤ b := by
  have e : ∀ (o : ℕ) (h : S128x128.Slices ![o, 0] S8x128) (g : Fin 16), o = g.val * 8 →
      extractStridedSlice S8x128 ![o, 0] (transpose S128x128 [1, 0] p transposes_S128x128_p1_0_S128x128) h (ix2 k t)
        = p (ix2 t ⟨g.val * 8 + k.val, by omega⟩) := fun o h g ho =>
    (slice2_axis0_apply o _ h k t ⟨g.val * 8 + k.val, by omega⟩ (by simp [ho])).trans (transpose_ix2_apply p _ _ _)
  unfold rowGroups
  simp only [maximumf_apply]
  rw [e 0 _ 0 rfl, e 8 _ 1 rfl, e 16 _ 2 rfl, e 24 _ 3 rfl, e 32 _ 4 rfl, e 40 _ 5 rfl, e 48 _ 6 rfl, e 56 _ 7 rfl, e 64 _ 8 rfl,
    e 72 _ 9 rfl, e 80 _ 10 rfl, e 88 _ 11 rfl, e 96 _ 12 rfl, e 104 _ 13 rfl, e 112 _ 14 rfl, e 120 _ 15 rfl]
  simp only [max_le_iff, and_assoc, Fin.forall_fin_succ, IsEmpty.forall_iff, and_true]
  rfl

theorem laneReduce_maximumf (p : FVec Ideal S128x128 .f32) (r : Fin 8) (t : Fin 128) (b : EReal) :
    laneReduce maximumf p (ix2 r t) ≤ b ↔ ∀ l : Fin 128, p (ix2 t l) ≤ b := by
  have h1 : laneReduce maximumf p (ix2 r t) = combine8 (fun a b : EReal => max a b) fun k =>
      rowGroups maximumf (transpose S128x128 [1, 0] p transposes_S128x128_p1_0_S128x128) (ix2 k t) :=
    sublaneAllReduce_apply (fun a b : EReal => max a b) rotates_S8x128_d0
      (rowGroups maximumf (transpose S128x128 [1, 0] p transposes_S128x128_p1_0_S128x128)) r t
  have h2 : laneReduce maximumf p (ix2 r t) ≤ b ↔ ∀ k : Fin 8, ∀ g : Fin 16, p (ix2 t ⟨g.val * 8 + k.val, by omega⟩) ≤ b := by
    rw [h1]
    simp only [combine8, max_le_iff, ← rowGroups_maximumf]
    constructor
    · rintro ⟨⟨⟨h0, h4⟩, h2, h6⟩, ⟨h1, h5⟩, h3, h7⟩ k
      match k with
      | 0 => exact h0
      | 1 => exact h1
      | 2 => exact h2
      | 3 => exact h3
      | 4 => exact h4
      | 5 => exact h5
      | 6 => exact h6
      | 7 => exact h7
    · intro h
      exact ⟨⟨⟨h 0, h 4⟩, h 2, h 6⟩, ⟨h 1, h 5⟩, h 3, h 7⟩
  rw [h2]
  constructor
  · intro h l
    have := h ⟨l.val % 8, by omega⟩ ⟨l.val / 8, by omega⟩
    rwa [show (⟨l.val / 8 * 8 + l.val % 8, by omega⟩ : Fin 128) = l from Fin.ext (by simp; omega)] at this
  · intro h k g; exact h _

/-- Eight equal rows turned into a column: every entry of row `t` is the rows' entry `t`. -/
theorem toColumn_apply (r : FVec Ideal S8x128 .f32) (t l : Fin 128) :
    toColumn r (ix2 t l) = r (ix2 (⟨l.val % 8, by omega⟩ : Fin 8) t) := by
  unfold toColumn
  rw [transpose_ix2_apply]
  exact concatenate_replicate_apply (t := S128x128) 0 16 r
    concatenates_S8x128_S8x128_S8x128_S8x128_S8x128_S8x128_S8x128_S8x128_S8x128_S8x128_S8x128_S8x128_S8x128_S8x128_S8x128_S8x128_S128x128_d0
    rfl (ix2 l t) (ix2 (⟨l.val % 8, by omega⟩ : Fin 8) t) rfl (fun b hb => by
      match b with
      | ⟨0, _⟩ => exact absurd rfl hb
      | ⟨1, _⟩ => rfl)

/-! ## The ladder, entry by entry -/

theorem lit_f32_p2 : Ideal.ofBits .f32 0x3F800000#32 = p2 0 ∧ Ideal.ofBits .f32 0x7F000000#32 = p2 127
    ∧ Ideal.ofBits .f32 0x40000000#32 = p2 1 ∧ Ideal.ofBits .f32 0x3F000000#32 = p2 (-1)
    ∧ Ideal.ofBits .f32 0x40800000#32 = p2 2 ∧ Ideal.ofBits .f32 0x3E800000#32 = p2 (-2)
    ∧ Ideal.ofBits .f32 0x41800000#32 = p2 4 ∧ Ideal.ofBits .f32 0x3D800000#32 = p2 (-4)
    ∧ Ideal.ofBits .f32 0x43800000#32 = p2 8 ∧ Ideal.ofBits .f32 0x3B800000#32 = p2 (-8)
    ∧ Ideal.ofBits .f32 0x47800000#32 = p2 16 ∧ Ideal.ofBits .f32 0x37800000#32 = p2 (-16)
    ∧ Ideal.ofBits .f32 0x4F800000#32 = p2 32 ∧ Ideal.ofBits .f32 0x2F800000#32 = p2 (-32)
    ∧ Ideal.ofBits .f32 0x5F800000#32 = p2 64 ∧ Ideal.ofBits .f32 0x1F800000#32 = p2 (-64) := by
  refine ⟨?_, ?_, ?_, ?_, ?_, ?_, ?_, ?_, ?_, ?_, ?_, ?_, ?_, ?_, ?_, ?_⟩ <;>
    (simp [Ideal.ofBits, Ideal.ieee, p2, -EReal.coe_mul, -EReal.coe_pow]; try norm_num)

theorem sel_ofBool {α : Type} (b : Bool) (x y : α) : Scalar.select (BitVec.ofBool b) x y = if b = true then x else y := by
  cases b <;> rfl

/-- A pair of rows read at one place. -/
def at2 (p : FVec Ideal S8x128 .f32 × IVec S8x128 32) (j : S8x128.Idx) : EReal × BitVec 32 := (p.1 j, p.2 j)

theorem rung_at (thr down : BitVec 32) (s : ℕ) (p : FVec Ideal S8x128 .f32 × IVec S8x128 32) (j : S8x128.Idx)
    (ht : Ideal.ofBits .f32 thr = p2 s) (hd : Ideal.ofBits .f32 down = p2 (-s)) :
    at2 (rung thr down (BitVec.ofNat 32 s) p) j = rungS s (at2 p j) := by
  have h1 : at2 (rung thr down (BitVec.ofNat 32 s) p) j
      = (Scalar.select (BitVec.ofBool (decide (Ideal.ofBits .f32 thr ≤ p.1 j))) (p.1 j * Ideal.ofBits .f32 down) (p.1 j),
         Scalar.select (BitVec.ofBool (decide (Ideal.ofBits .f32 thr ≤ p.1 j))) (p.2 j + BitVec.ofNat 32 s) (p.2 j)) := rfl
  rw [h1, sel_ofBool, sel_ofBool, ht, hd]
  simp only [decide_eq_true_eq]
  unfold rungS at2
  split_ifs <;> rfl

theorem start_at (y : FVec Ideal S8x128 .f32) (j : S8x128.Idx) : at2 (ladderStart y) j = startS (y j) := by
  have h1 : at2 (ladderStart y) j
      = (Scalar.select (BitVec.ofBool (decide (y j < Ideal.ofBits .f32 0x3F800000#32))) (y j * Ideal.ofBits .f32 0x7F000000#32) (y j),
         Scalar.select (BitVec.ofBool (decide (y j < Ideal.ofBits .f32 0x3F800000#32))) 0#32 127#32) := rfl
  rw [h1, sel_ofBool, sel_ofBool, lit_f32_p2.1, lit_f32_p2.2.1]
  simp only [decide_eq_true_eq]
  unfold startS
  split_ifs <;> rfl

theorem ladder_at (y : FVec Ideal S8x128 .f32) (j : S8x128.Idx) : at2 (ladder y) j = ladderS (y j) := by
  obtain ⟨-, -, a1, b1, a2, b2, a4, b4, a8, b8, a16, b16, a32, b32, a64, b64⟩ := lit_f32_p2
  unfold ladder ladderS
  rw [← start_at, ← rung_at _ _ 64 _ _ a64 b64, ← rung_at _ _ 32 _ _ a32 b32, ← rung_at _ _ 16 _ _ a16 b16,
    ← rung_at _ _ 8 _ _ a8 b8, ← rung_at _ _ 4 _ _ a4 b4, ← rung_at _ _ 2 _ _ a2 b2, ← rung_at _ _ 1 _ _ a1 b1]

theorem expField_at (y : FVec Ideal S8x128 .f32) (j : S8x128.Idx) : expField y j = fieldS (y j) := by
  have h1 : ∀ L : FVec Ideal S8x128 .f32 × IVec S8x128 32,
      select (cmpf .olt L.1 (broadcast S8x128 (Scalar.ofBits .f32 0x40000000#32 : Ideal .f32))) L.2 (broadcast S8x128 255#32) j
        = Scalar.select (BitVec.ofBool (decide ((at2 L j).1 < Ideal.ofBits .f32 0x40000000#32))) (at2 L j).2 255#32 :=
    fun L => rfl
  rw [expField, h1, ladder_at, sel_ofBool, lit_f32_p2.2.2.1]
  simp only [decide_eq_true_eq]
  rfl

theorem select_special (e : BitVec 32) {α : Type} (x y : α) :
    Scalar.select (BitVec.ofBool (e == 0#32) ||| BitVec.ofBool (e == 255#32)) x y = if specialS e then x else y := by
  by_cases h0 : e = 0#32
  · rw [if_pos (show specialS e from Or.inl h0), h0]; rfl
  by_cases h1 : e = 255#32
  · rw [if_pos (show specialS e from Or.inr h1), h1]; rfl
  rw [if_neg (show ¬ specialS e from not_or.2 ⟨h0, h1⟩), beq_eq_false_iff_ne.2 h0, beq_eq_false_iff_ne.2 h1]
  rfl

theorem powerOf_at (e : IVec S8x128 32) (j : S8x128.Idx) : (powerOf e : FVec Ideal S8x128 .f32) j = powerS (e j) := by
  have h1 : (powerOf e : FVec Ideal S8x128 .f32) j = Scalar.select (BitVec.ofBool (e j == 0#32))
      (Ideal.ofBits .f32 0x00000000#32) (Ideal.exp2 (((e j - 127#32).toInt : ℝ) : EReal)) := rfl
  rw [h1, sel_ofBool, Ideal.ofBits_zero_f32]
  simp only [beq_iff_eq]
  rfl

theorem invRow_at (m : FVec Ideal S128x128 .f32) (j : S8x128.Idx) : invRow m j = invS (overMax m j) := by
  unfold invRow
  rw [powerOf_at]
  have h1 : select (special (expField (overMax m))) (broadcast S8x128 127#32)
      (maxsi (subi (broadcast S8x128 253#32) (expField (overMax m))) (broadcast S8x128 0#32)) j
      = Scalar.select (BitVec.ofBool (expField (overMax m) j == 0#32) ||| BitVec.ofBool (expField (overMax m) j == 255#32))
        127#32 (if (0#32).slt (253#32 - expField (overMax m) j) then 253#32 - expField (overMax m) j else 0#32) := rfl
  rw [h1, select_special, expField_at]
  rfl

theorem scaleRow_at (m : FVec Ideal S128x128 .f32) (j : S8x128.Idx) : scaleRow m j = scaleS (overMax m j) := by
  unfold scaleRow
  rw [powerOf_at]
  have h1 : select (special (expField (overMax m))) (broadcast S8x128 127#32)
      (addi (expField (overMax m)) (broadcast S8x128 1#32)) j
      = Scalar.select (BitVec.ofBool (expField (overMax m) j == 0#32) ||| BitVec.ofBool (expField (overMax m) j == 255#32))
        127#32 (expField (overMax m) j + 1#32) := rfl
  rw [h1, select_special, expField_at]
  rfl

end Cert.KernelIdeal.Body

end
-- ==== Proof.RowValue.lean ====
/-
A block of 128 tokens of a tile over the extended reals: the inverse root mean square, the greatest magnitude, the scale
and the codes of each token are those of its row (`LaneValue.lean`).
-/
module

public import proofs.«01_k».proof.Proof.LaneValue

@[expose] public section

set_option maxRecDepth 4096

noncomputable section

namespace Cert.KernelIdeal.Body

open Idealize.ShloMosaic Idealize.ShloMosaic.TcCoe Idealize.ShloMosaic.ValueIdx
open Cert.KernelIdeal Cert.KernelIdeal.Gen Cert.Scale
open Fin (sum_mul_add_fin)

/-- Row `r` of a tile. -/
def tileRow (x : Vec Ideal S512x3072 .bf16) (r : Fin 512) (k : Fin 3072) : EReal := x (ix2 r k)

/-- The gains, as a row. -/
def gainRow (g : Vec Ideal S1x3072 .f32) (k : Fin 3072) : EReal := g (ix2 (0 : Fin 1) k)

variable (a1 : Memref sig .tc .vmem S512x3072 .bf16) (h1 : a1.IsWhole) (a2 : Memref sig .tc .vmem S1x3072 .f32)
  (h2 : a2.IsWhole) (x : Vec Ideal S512x3072 .bf16) (g : Vec Ideal S1x3072 .f32)

theorem gl_apply (k : ℕ) (hk : k < 24) (l : Fin 128) :
    gl a2 h2 g k hk (ix2 (0 : Fin 1) l) = gainRow g ⟨128 * k + l.val, by omega⟩ := by
  unfold gl gainRow
  rw [h2.readAt_unread]
  exact congrArg g (funext fun d => by match d with | ⟨0, _⟩ => exact Fin.ext (by simp [Rect.unit]) | ⟨1, _⟩ => exact Fin.ext (by simp [Rect.unit]))

theorem widen_apply (v : Vec Ideal S128x256 .bf16) (j : S128x256.Idx) : widen v j = v j := by
  unfold widen
  rw [extf_apply, shapeCast_self]

theorem gainRows_gl (k : ℕ) (hk : k < 24) (t l : Fin 128) :
    gainRows (gl a2 h2 g k hk) (ix2 t l) = gainRow g ⟨128 * k + l.val, by omega⟩ := by
  unfold gainRows
  rw [broadcastTo_1b_ab_apply, shapeCast_self, gl_apply]

/-- The squares of a row, added window by window and lane by lane, add up to the sum over the row. -/
theorem squares_sum (r : Fin 8) (t : Fin 128) (v : (n : ℕ) → n < 12 → Vec Ideal S128x256 .bf16) (f : Fin 3072 → EReal)
    (hlo : ∀ k hk (l : Fin 128), lo (v k hk) (ix2 t l) = f ⟨256 * k + l.val, by omega⟩)
    (hhi : ∀ k hk (l : Fin 128), hi (v k hk) (ix2 t l) = f ⟨256 * k + (128 + l.val), by omega⟩) :
    (addf (addf (laneReduce addf (windowSquares (v 0 (by decide)) (v 1 (by decide)) (v 2 (by decide)) (v 3 (by decide))))
      (laneReduce addf (windowSquares (v 4 (by decide)) (v 5 (by decide)) (v 6 (by decide)) (v 7 (by decide)))))
      (laneReduce addf (windowSquares (v 8 (by decide)) (v 9 (by decide)) (v 10 (by decide)) (v 11 (by decide)))) :
        FVec Ideal S8x128 .f32) (ix2 r t) = ∑ k, f k * f k := by
  simp only [addf_apply, laneReduce_addf]
  rw [← Finset.sum_add_distrib, ← Finset.sum_add_distrib, ← sum_mul_add_fin 24 128 (fun k => f k * f k), Finset.sum_comm]
  refine Finset.sum_congr rfl fun l _ => ?_
  simp only [windowSquares, addf_apply, mulf_apply, hlo, hhi, Fin.sum_univ_succ, Fin.sum_univ_zero, add_zero, add_assoc]
  have e : ∀ a b : Fin 3072, a.val = b.val → f a * f a = f b * f b := fun a b h => by rw [Fin.ext h]
  repeat refine congrArg₂ (· + ·) (e _ _ (by simp [Fin.val_succ]; try omega)) ?_
  exact e _ _ (by simp [Fin.val_succ]; try omega)

theorem named_inv_d_model : (Named.named κ "inv_d_model" 0x39AAAAAB#32 : Ideal .f32) = ((1 / 3072 : ℝ) : EReal) :=
  IdealRules.named_const.ideal_named_scalar _ _ _ _ rfl

/-- A magnitude. -/
def mag (a : EReal) : EReal := max a (-a)

theorem amaxLanes_le (b : EReal) (r : FVec Ideal S128x128 .f32) (v : (n : ℕ) → n < 12 → Vec Ideal S128x256 .bf16)
    (w : (n : ℕ) → n < 24 → Vec Ideal S1x128 .f32) (j : S128x128.Idx) :
    amaxLanes r v w j ≤ b ↔ ∀ k (hk : k < 12), mag (normed (lo (v k hk)) r (w (2 * k) (by omega)) j) ≤ b
      ∧ mag (normed (hi (v k hk)) r (w (2 * k + 1) (by omega)) j) ≤ b := by
  have ha : ∀ (y : FVec Ideal S128x128 .f32), absf y j = mag (y j) := fun _ => rfl
  unfold amaxLanes amaxStep amaxFirst
  simp only [maximumf_apply, ha, max_le_iff, and_assoc]
  constructor
  · intro h k hk
    obtain ⟨h0, h1, h2, h3, h4, h5, h6, h7, h8, h9, h10, h11, h12, h13, h14, h15, h16, h17, h18, h19, h20, h21, h22, h23⟩ := h
    match k, hk with
    | 0, _ => exact ⟨h0, h1⟩
    | 1, _ => exact ⟨h2, h3⟩
    | 2, _ => exact ⟨h4, h5⟩
    | 3, _ => exact ⟨h6, h7⟩
    | 4, _ => exact ⟨h8, h9⟩
    | 5, _ => exact ⟨h10, h11⟩
    | 6, _ => exact ⟨h12, h13⟩
    | 7, _ => exact ⟨h14, h15⟩
    | 8, _ => exact ⟨h16, h17⟩
    | 9, _ => exact ⟨h18, h19⟩
    | 10, _ => exact ⟨h20, h21⟩
    | 11, _ => exact ⟨h22, h23⟩
  · intro h
    have e := fun k (hk : k < 12) => h k hk
    exact ⟨(e 0 (by decide)).1, (e 0 (by decide)).2, (e 1 (by decide)).1, (e 1 (by decide)).2, (e 2 (by decide)).1, (e 2 (by decide)).2,
      (e 3 (by decide)).1, (e 3 (by decide)).2, (e 4 (by decide)).1, (e 4 (by decide)).2, (e 5 (by decide)).1, (e 5 (by decide)).2,
      (e 6 (by decide)).1, (e 6 (by decide)).2, (e 7 (by decide)).1, (e 7 (by decide)).2, (e 8 (by decide)).1, (e 8 (by decide)).2,
      (e 9 (by decide)).1, (e 9 (by decide)).2, (e 10 (by decide)).1, (e 10 (by decide)).2, (e 11 (by decide)).1, (e 11 (by decide)).2⟩

variable (o : ℕ) (ho : o + 128 ≤ 512)

theorem xl_apply (k : ℕ) (hk : k < 12) (t : Fin 128) (l : Fin 256) :
    xl a1 h1 x o ho k hk (ix2 t l) = tileRow x ⟨o + t.val, by omega⟩ ⟨256 * k + l.val, by omega⟩ := by
  unfold xl tileRow
  rw [h1.readAt_unread]
  exact congrArg x (funext fun d => by match d with | ⟨0, _⟩ => exact Fin.ext (by simp [Rect.unit]) | ⟨1, _⟩ => exact Fin.ext (by simp [Rect.unit]))

theorem lo_xl (k : ℕ) (hk : k < 12) (t l : Fin 128) :
    lo (xl a1 h1 x o ho k hk) (ix2 t l) = tileRow x ⟨o + t.val, by omega⟩ ⟨256 * k + l.val, by omega⟩ := by
  unfold lo
  refine (slice2_axis1_apply (n0 := 128) (n1 := 256) (m := 128) 0 (widen (xl a1 h1 x o ho k hk)) slices_S128x256_o0_0_S128x128 t l ⟨l.val, by omega⟩ (Nat.zero_add _).symm).trans ?_
  rw [widen_apply, xl_apply]

theorem hi_xl (k : ℕ) (hk : k < 12) (t l : Fin 128) :
    hi (xl a1 h1 x o ho k hk) (ix2 t l) = tileRow x ⟨o + t.val, by omega⟩ ⟨256 * k + (128 + l.val), by omega⟩ := by
  unfold hi
  refine (slice2_axis1_apply (n0 := 128) (n1 := 256) (m := 128) 128 (widen (xl a1 h1 x o ho k hk)) slices_S128x256_o0_128_S128x128 t l ⟨128 + l.val, by omega⟩ rfl).trans ?_
  rw [widen_apply, xl_apply]

theorem rmsOf_apply (t l : Fin 128) :
    rmsOf a1 h1 x o ho (ix2 t l) = rowRms (tileRow x ⟨o + t.val, by omega⟩) := by
  unfold rmsOf invRms
  rw [toColumn_apply]
  have h := squares_sum ⟨l.val % 8, by omega⟩ t (xl a1 h1 x o ho) (tileRow x ⟨o + t.val, by omega⟩)
    (fun k hk l => lo_xl a1 h1 x o ho k hk t l) (fun k hk l => hi_xl a1 h1 x o ho k hk t l)
  unfold rowRms
  rw [← h, ← named_inv_d_model]
  rfl

/-- Lane group `n` of the block's normalised rows. -/
theorem normed_lo (k : ℕ) (hk : k < 12) (t l : Fin 128) :
    normed (lo (xl a1 h1 x o ho k hk)) (rmsOf a1 h1 x o ho) (gl a2 h2 g (2 * k) (by omega)) (ix2 t l)
      = rowNorm (tileRow x ⟨o + t.val, by omega⟩) (gainRow g) ⟨256 * k + l.val, by omega⟩ := by
  unfold normed rowNorm
  rw [mulf_apply, mulf_apply, lo_xl, rmsOf_apply, gainRows_gl]
  exact congrArg _ (congrArg _ (Fin.ext (show 128 * (2 * k) + l.val = 256 * k + l.val by omega)))

theorem normed_hi (k : ℕ) (hk : k < 12) (t l : Fin 128) :
    normed (hi (xl a1 h1 x o ho k hk)) (rmsOf a1 h1 x o ho) (gl a2 h2 g (2 * k + 1) (by omega)) (ix2 t l)
      = rowNorm (tileRow x ⟨o + t.val, by omega⟩) (gainRow g) ⟨256 * k + (128 + l.val), by omega⟩ := by
  unfold normed rowNorm
  rw [mulf_apply, mulf_apply, hi_xl, rmsOf_apply, gainRows_gl]
  exact congrArg _ (congrArg _ (Fin.ext (show 128 * (2 * k + 1) + l.val = 256 * k + (128 + l.val) by omega)))

theorem overMax_amaxOf (r : Fin 8) (t : Fin 128) :
    overMax (amaxOf a1 h1 a2 h2 x g o ho) (ix2 r t) = rowOver (tileRow x ⟨o + t.val, by omega⟩) (gainRow g) := by
  unfold overMax rowOver
  rw [mulf_apply]
  refine congrArg (· * Ideal.ofBits .f32 0x3B124925#32) (eq_of_forall_ge_iff fun b => ?_)
  rw [laneReduce_maximumf, Finset.sup_le_iff]
  unfold amaxOf
  simp only [amaxLanes_le, normed_lo, normed_hi]
  constructor
  · intro h k _
    by_cases hc : k.val % 256 < 128
    · have := (h ⟨k.val % 256, hc⟩ (k.val / 256) (by omega)).1
      rwa [show (⟨256 * (k.val / 256) + k.val % 256, by omega⟩ : Fin 3072) = k from Fin.ext (by simp; omega)] at this
    · have := (h ⟨k.val % 256 - 128, by omega⟩ (k.val / 256) (by omega)).2
      rwa [show (⟨256 * (k.val / 256) + (128 + (k.val % 256 - 128)), by omega⟩ : Fin 3072) = k from Fin.ext (by simp; omega)] at this
  · intro h l k hk
    exact ⟨h _ (Finset.mem_univ _), h _ (Finset.mem_univ _)⟩

theorem invOf_apply (t l : Fin 128) :
    invOf a1 h1 a2 h2 x g o ho (ix2 t l) = invS (rowOver (tileRow x ⟨o + t.val, by omega⟩) (gainRow g)) := by
  unfold invOf
  rw [toColumn_apply, invRow_at, overMax_amaxOf]

theorem scaleOf_apply (r : Fin 8) (t : Fin 128) :
    scaleOf a1 h1 a2 h2 x g o ho (ix2 r t) = scaleS (rowOver (tileRow x ⟨o + t.val, by omega⟩) (gainRow g)) := by
  unfold scaleOf
  rw [scaleRow_at, overMax_amaxOf]

/-- A lane group's codes, the normalised value and the inverse scale given. -/
theorem coded_apply (h inv : FVec Ideal S128x128 .f32) (j : S128x128.Idx) :
    coded h inv j = min (Ideal.ofBits .f32 0x43E00000#32) (max (Ideal.ofBits .f32 0xC3E00000#32) (h j * inv j)) := rfl

end Cert.KernelIdeal.Body

end
-- ==== Proof.TileValue.lean ====
/-
What the quantiser's stores (`Tiles.lean`) hold over the extended reals: each list of stores holds, wherever it stores, one
function of the tile's rows, and covers the array it stores into.
-/
module

public import proofs.«01_k».proof.Proof.RowValue
public import proofs.«01_k».proof.Proof.Tiles
public import Idealize.ShloMosaic.Lib.Pipeline.ValueKit.Geometry

@[expose] public section

set_option maxRecDepth 4096

noncomputable section

namespace Cert.KernelIdeal.Body

open Idealize.ShloMosaic Idealize.ShloMosaic.TcCoe Idealize.ShloMosaic.ValueIdx
open Cert.KernelIdeal Cert.KernelIdeal.Gen Cert.Scale

/-- Every store of a list holds `G` where it stores. -/
def Holds {s : Shape} {e : EltTy} (L : List (View.Piece (Elt Ideal) s e)) (G : s.Idx → Elt Ideal e) : Prop :=
  ∀ p ∈ L, ∀ x : p.1.shape.Idx, p.2 x = G (p.1.emb x)

/-- The stores of a list reach an index. -/
def Reaches {s : Shape} {e : EltTy} (L : List (View.Piece (Elt Ideal) s e)) (y : s.Idx) : Prop := ∃ p ∈ L, y ∈ p.1.set

theorem read_of_holds {κ : Kind} {sp : Space} {s : Shape} {e : EltTy} (v : View sig κ sp s e) (f : v.ty.Contents (Elt Ideal))
    {L : List (View.Piece (Elt Ideal) s e)} {G : s.Idx → Elt Ideal e} (h : Holds L G) (hc : ∀ y, Reaches L y) :
    v.read (Elt Ideal) (v.writes (Elt Ideal) f L) = G :=
  funext fun y => View.read_writes_apply_of_pieces v f G L h y (hc y)

theorem readCov_of_holds {κ : Kind} {sp : Space} {s : Shape} {e : EltTy} (v : View sig κ sp s e)
    {L : List (View.Piece (Elt Ideal) s e)} {G : s.Idx → Elt Ideal e} (h : Holds L G) (B : LoadRect s) (j)
    (hc : Reaches L (B.idx j)) : v.readCov L B j = G (B.idx j) :=
  View.read_writes_apply_of_pieces v _ G L h _ hc

/-- The first `N` of `f`'s stores hold what each holds. -/
theorem holds_downFrom {s : Shape} {e : EltTy} {N : ℕ} {f : (m : ℕ) → m < N → View.Piece (Elt Ideal) s e} {G : s.Idx → Elt Ideal e}
    (h : ∀ m hm, ∀ x : (f m hm).1.shape.Idx, (f m hm).2 x = G ((f m hm).1.emb x)) : Holds (downFrom N f) G := by
  rintro p hp
  obtain ⟨m, hm, rfl⟩ := mem_downFrom.mp hp
  exact h m hm

theorem reaches_downFrom {s : Shape} {e : EltTy} {N : ℕ} {f : (m : ℕ) → m < N → View.Piece (Elt Ideal) s e} {y : s.Idx}
    (m : ℕ) (hm : m < N) (h : y ∈ (f m hm).1.set) : Reaches (downFrom N f) y :=
  ⟨_, mem_downFrom.mpr ⟨m, hm, rfl⟩, h⟩

/-- Where a unit-stride rectangle puts an index. -/
theorem unit_emb_val {s : Shape} (off size : Fin s.rank → ℕ) (inb) (j : (Rect.unit off size inb).shape.Idx) (a : Fin s.rank) (v : ℕ)
    (h : off a + (j a).val = v) : v = ((Rect.unit off size inb).emb j a).val :=
  h.symm.trans (ValueKit.rect_emb_unit_val off size inb j a).symm

variable (a1 : Memref sig .tc .vmem S512x3072 .bf16) (h1 : a1.IsWhole) (a2 : Memref sig .tc .vmem S1x3072 .f32)
  (h2 : a2.IsWhole) (a14 : Memref sig .tc .vmem S512x3072 .f32) (x : Vec Ideal S512x3072 .bf16) (g : Vec Ideal S1x3072 .f32)

/-- The normalised rows of a tile. -/
def normTile : Vec Ideal S512x3072 .f32 := fun j => rowNorm (tileRow x (j 0)) (gainRow g) (j 1)

/-- The codes of a tile. -/
def codeTile : Vec Ideal S512x3072 .fp8e4m3 := fun j => rowCode (tileRow x (j 0)) (gainRow g) (j 1)

/-- The scale of a row of a tile. -/
def scaleRowOf (r : Fin 512) : EReal := scaleS (rowOver (tileRow x r) (gainRow g))

theorem mem_tileRect {m N : ℕ} (hN : N ≤ 96) (hm : m < N) (y : S512x3072.Idx) :
    y ∈ (tileRect hN hm).set ↔ m = 24 * ((y 0).val / 128) + (y 1).val / 128 := by
  unfold tileRect
  rw [Rect.mem_set_unit]
  have h0 : (y 0).val < 512 := (y 0).isLt
  have h1 : (y 1).val < 3072 := (y 1).isLt
  constructor
  · intro h
    have e0 := h 0
    have e1 := h 1
    simp [S128x128] at e0 e1
    omega
  · rintro rfl d
    match d with
    | ⟨0, _⟩ => simp [S128x128]; omega
    | ⟨1, _⟩ => simp [S128x128]; omega

theorem tileRect_emb {m N : ℕ} (hN : N ≤ 96) (hm : m < N) (t l : Fin 128) :
    (tileRect hN hm).emb (ix2 t l)
      = ix2 (⟨128 * (m / 24) + t.val, by omega⟩ : Fin 512) (⟨128 * (m % 24) + l.val, by omega⟩ : Fin 3072) := by
  funext d
  match d with
  | ⟨0, _⟩ => exact Fin.ext (ValueKit.rect_emb_unit_val _ _ _ _ _)
  | ⟨1, _⟩ => exact Fin.ext (ValueKit.rect_emb_unit_val _ _ _ _ _)

theorem hBlock_apply (o : ℕ) (ho : o + 128 ≤ 512) (n : ℕ) (hn : n < 24) (t l : Fin 128) :
    hBlock a1 h1 a2 h2 x g o ho n hn (ix2 t l)
      = rowNorm (tileRow x ⟨o + t.val, by omega⟩) (gainRow g) ⟨128 * n + l.val, by omega⟩ := by
  unfold hBlock
  rw [shapeCast_self]
  obtain ⟨k, rfl | rfl⟩ := Nat.even_or_odd' n
  · have key : ∀ q (hq : q < 12), q = k → lo (xl a1 h1 x o ho q hq) = lo (xl a1 h1 x o ho k (by omega)) := by rintro q hq rfl; rfl
    rw [show Nat.beq (2 * k % 2) 0 = true by rw [Nat.mul_mod_right]; rfl, cond_true, key _ _ (by omega)]
    rw [normed_lo a1 h1 a2 h2 x g o ho k (by omega)]
    congr 1; exact Fin.ext (by simp; omega)
  · have key : ∀ q (hq : q < 12), q = k → hi (xl a1 h1 x o ho q hq) = hi (xl a1 h1 x o ho k (by omega)) := by rintro q hq rfl; rfl
    rw [show Nat.beq ((2 * k + 1) % 2) 0 = false by rw [show (2 * k + 1) % 2 = 1 by omega]; rfl, cond_false, key _ _ (by omega)]
    rw [normed_hi a1 h1 a2 h2 x g o ho k (by omega)]
    congr 1; exact Fin.ext (by simp; omega)

theorem holds_hStores (N : ℕ) (hN : N ≤ 96) : Holds (hStores a1 h1 a2 h2 x g N hN) (normTile x g) :=
  holds_downFrom fun m hm z => by
    obtain ⟨t, l, rfl⟩ : ∃ t l : Fin 128, z = ix2 t l := ⟨z 0, z 1, eq_ix2 z⟩
    refine (hBlock_apply ..).trans ?_
    dsimp only
    rw [tileRect_emb]
    rfl

theorem reaches_hStores (N : ℕ) (hN : N ≤ 96) (y : S512x3072.Idx) (h : 24 * ((y 0).val / 128) + (y 1).val / 128 < N) :
    Reaches (hStores a1 h1 a2 h2 x g N hN) y :=
  reaches_downFrom _ h ((mem_tileRect hN h y).mpr rfl)

/-- The codes of a lane group, read back from stores of normalised rows. -/
theorem coded_readCov (hs : List (View.Piece (Elt Ideal) S512x3072 .f32)) (inv : FVec Ideal S128x128 .f32) {m : ℕ} (hm : m < 96)
    (hh : ∃ h : 24 * (m / 24) + 24 ≤ 96, hs = hStores a1 h1 a2 h2 x g (24 * (m / 24) + 24) h)
    (hi : inv = invOf a1 h1 a2 h2 x g (128 * (m / 24)) (by omega)) (t l : Fin 128) :
    coded (a14.view.readCov hs (tileRect le_rfl hm).toLoadRect) inv (ix2 t l)
      = codeTile x g ((tileRect le_rfl hm).emb (ix2 t l)) := by
  obtain ⟨hN, rfl⟩ := hh
  subst hi
  have hr : a14.view.readCov (hStores a1 h1 a2 h2 x g (24 * (m / 24) + 24) hN) (tileRect le_rfl hm).toLoadRect (ix2 t l)
      = normTile x g ((tileRect le_rfl hm).emb (ix2 t l)) :=
    readCov_of_holds a14.view (holds_hStores a1 h1 a2 h2 x g _ _) _ _ (reaches_hStores a1 h1 a2 h2 x g _ _ _ (by
      rw [show (tileRect le_rfl hm).toLoadRect.idx (ix2 t l) = (tileRect le_rfl hm).emb (ix2 t l) from rfl, tileRect_emb]
      show 24 * ((128 * (m / 24) + t.val) / 128) + (128 * (m % 24) + l.val) / 128 < _
      omega))
  refine (coded_apply _ _ _).trans ((congrArg₂ (fun a b => min _ (max _ (a * b))) hr (invOf_apply a1 h1 a2 h2 x g _ _ t l)).trans ?_)
  rw [tileRect_emb]
  rfl

variable (hs : ℕ → List (View.Piece (Elt Ideal) S512x3072 .f32)) (inv : ℕ → FVec Ideal S128x128 .f32)

/-- The stores and the inverse scales that the codes of each block are made of are those of the tile. -/
def FromTile : Prop :=
  (∀ b, b < 4 → ∃ h : 24 * b + 24 ≤ 96, hs b = hStores a1 h1 a2 h2 x g (24 * b + 24) h)
    ∧ ∀ b (hb : b < 4), inv b = invOf a1 h1 a2 h2 x g (128 * b) (by omega)

variable {a1 h1 a2 h2 x g hs inv} (hf : FromTile a1 h1 a2 h2 x g hs inv)
include hf

theorem holds_cStores : Holds (cStores a14 hs inv 96 le_rfl) (codeTile x g) :=
  holds_downFrom fun m hm z => by
    obtain ⟨t, l, rfl⟩ : ∃ t l : Fin 128, z = ix2 t l := ⟨z 0, z 1, eq_ix2 z⟩
    exact coded_readCov a1 h1 a2 h2 a14 x g _ _ hm (hf.1 _ (by omega)) (hf.2 _ (by omega)) t l

omit hf in
theorem reaches_cStores (y : S512x3072.Idx) : Reaches (cStores a14 hs inv 96 le_rfl) y := by
  have h0 : (y 0).val < 512 := (y 0).isLt
  have h1 : (y 1).val < 3072 := (y 1).isLt
  exact reaches_downFrom (24 * ((y 0).val / 128) + (y 1).val / 128) (by omega) ((mem_tileRect le_rfl (by omega) y).mpr rfl)

/-- What slot `s` of the codes kept holds. -/
def slotTile (C : Vec Ideal S512x3072 .fp8e4m3) : Vec Ideal S2x512x3072 .fp8e4m3 := fun j => C (ix2 (j 1) (j 2))

theorem holds_slotStores (s : ℕ) (hs2 : s < 2) : Holds (slotStores a14 s hs2 hs inv 96 le_rfl) (slotTile (codeTile x g)) :=
  holds_downFrom fun m hm z => by
    obtain ⟨u, t, l, rfl⟩ : ∃ (u : Fin 1) (t l : Fin 128), z = ix3 u t l := ⟨z 0, z 1, z 2, eq_ix3 z⟩
    dsimp only
    refine (shapeCast_ab_1ab_apply (a := 128) (b := 128) _ _ u t l).trans ?_
    rw [shapeCast_self]
    refine (coded_readCov a1 h1 a2 h2 a14 x g _ _ hm (hf.1 _ (by omega)) (hf.2 _ (by omega)) t l).trans ?_
    rw [tileRect_emb]
    exact congrArg (codeTile x g) (congrArg₂ ix2 (Fin.ext (unit_emb_val _ _ _ _ _ _ rfl)) (Fin.ext (unit_emb_val _ _ _ _ _ _ rfl)))

omit hf in
theorem reaches_slotStores (s : ℕ) (hs2 : s < 2) (y : S2x512x3072.Idx) (hy : (y 0).val = s) :
    Reaches (slotStores a14 s hs2 hs inv 96 le_rfl) y := by
  have h0 : (y 1).val < 512 := (y 1).isLt
  have h1 : (y 2).val < 3072 := (y 2).isLt
  refine reaches_downFrom (24 * ((y 1).val / 128) + (y 2).val / 128) (by omega) ?_
  dsimp only
  rw [Rect.mem_set_unit]
  intro d
  match d with
  | ⟨0, _⟩ => simp [S1x128x128]; omega
  | ⟨1, _⟩ => simp [S1x128x128]; omega
  | ⟨2, _⟩ => simp [S1x128x128]; omega

omit hf

variable (a1 h1 a2 h2 x g)

theorem holds_scaleStores : Holds (scaleStores a1 h1 a2 h2 x g) (fun j => scaleRowOf x g (j 1)) :=
  holds_downFrom fun b hb z => by
    obtain ⟨r, t, rfl⟩ : ∃ (r : Fin 8) (t : Fin 128), z = ix2 r t := ⟨z 0, z 1, eq_ix2 z⟩
    dsimp only
    rw [shapeCast_self, scaleOf_apply]
    exact congrArg (scaleRowOf x g) (Fin.ext (unit_emb_val _ _ _ _ _ _ rfl))

theorem reaches_scaleStores (y : S8x512.Idx) : Reaches (scaleStores a1 h1 a2 h2 x g) y := by
  have h0 : (y 0).val < 8 := (y 0).isLt
  have h1 : (y 1).val < 512 := (y 1).isLt
  refine reaches_downFrom ((y 1).val / 128) (by omega) ?_
  dsimp only
  rw [Rect.mem_set_unit]
  intro d
  match d with
  | ⟨0, _⟩ => simp [S8x128]; omega
  | ⟨1, _⟩ => simp [S8x128]; omega

theorem holds_scaleOutStores : Holds (scaleOutStores a1 h1 a2 h2 x g) (fun j => scaleRowOf x g (j 2)) :=
  holds_downFrom fun b hb z => by
    obtain ⟨u, r, t, rfl⟩ : ∃ (u r : Fin 1) (t : Fin 128), z = ix3 u r t := ⟨z 0, z 1, z 2, eq_ix3 z⟩
    dsimp only
    refine (shapeCast_ab_1ab_apply (a := 1) (b := 128) _ _ u r t).trans ?_
    refine (slice2_axis0_apply (n0 := 8) (n1 := 128) (m := 1) 0 _ slices_S8x128_o0_0_S1x128 r t ⟨0, by omega⟩ (by simp)).trans ?_
    rw [scaleOf_apply]
    exact congrArg (scaleRowOf x g) (Fin.ext (unit_emb_val _ _ _ _ _ _ rfl))

theorem reaches_scaleOutStores (y : S1x1x512.Idx) : Reaches (scaleOutStores a1 h1 a2 h2 x g) y := by
  have h0 : (y 0).val < 1 := (y 0).isLt
  have h1 : (y 1).val < 1 := (y 1).isLt
  have h2 : (y 2).val < 512 := (y 2).isLt
  refine reaches_downFrom ((y 2).val / 128) (by omega) ?_
  dsimp only
  rw [Rect.mem_set_unit]
  intro d
  match d with
  | ⟨0, _⟩ => simp [S1x1x128]
  | ⟨1, _⟩ => simp [S1x1x128]
  | ⟨2, _⟩ => simp [S1x1x128]; omega

end Cert.KernelIdeal.Body

end
-- ==== Proof.ProjectValue.lean ====
/-
What the projection's stores (`Project.lean`) hold over the extended reals: the heads of the product, rotated by the angles of
the positions, as functions of the head, the place in the head and the token.
-/
module

public import proofs.«01_k».proof.Proof.TileValue
public import proofs.«01_k».proof.Proof.Project
public import Idealize.ShloMosaic.Lib.MatmulPlain

@[expose] public section

set_option maxRecDepth 4096

noncomputable section

namespace Cert.KernelIdeal.Body

open Idealize.ShloMosaic Idealize.ShloMosaic.TcCoe Idealize.ShloMosaic.ValueIdx
open Cert.KernelIdeal Cert.KernelIdeal.Gen

/-- A unit-stride rectangle of a whole buffer, read. -/
theorem readAt_unit {sp : Space} {s : Shape} {e : EltTy} (a : Memref sig .tc sp s e) (h : a.IsWhole) (x : Vec Ideal s e)
    (off size : Fin s.rank → ℕ) (inb) (j : (Rect.unit off size inb).shape.Idx) (k : s.Idx) (hk : ∀ d, off d + (j d).val = (k d).val) :
    View.readAt (Elt Ideal) a.view (Rect.unit off size inb).toLoadRect (h.unread x) j = x k := by
  rw [h.readAt_unread]
  exact congrArg x (funext fun d => Fin.ext ((ValueKit.rect_emb_unit_val off size inb j d).trans (hk d)))

/-- Place `d` of head `H` of a row `P` of the product, rotated by the cosines `cs` and the sines `sn`. -/
def rotVal (P : ℕ → EReal) (cs sn : Fin 48 → EReal) (H d : ℕ) : EReal :=
  if h : d < 48 then P (96 * H + d) * cs ⟨d, h⟩ - P (96 * H + (48 + d)) * sn ⟨d, h⟩
  else if h' : d < 96 then P (96 * H + d) * cs ⟨d - 48, by omega⟩ + P (96 * H + (d - 48)) * sn ⟨d - 48, by omega⟩ else 0

/-- Column `n` of the chunks of a product, token `t`. -/
def column (t : ℕ → FVec Ideal S384x512 .f32) (tok : Fin 512) (n : ℕ) : EReal :=
  t (n / 384) (ix2 (⟨n % 384, Nat.mod_lt _ (by decide)⟩ : Fin 384) tok)

theorem head_apply (t : FVec Ideal S384x512 .f32) (q : ℕ) (hq : q < 4) (r : Fin 96) (tok : Fin 512) :
    head t q (ix2 r tok) = t (ix2 (⟨96 * q + r.val, by omega⟩ : Fin 384) tok) := by
  match q, hq with
  | 0, _ => exact slice2_axis0_apply (n0 := 384) (n1 := 512) (m := 96) 0 t slices_S384x512_o0_0_S96x512 r tok _ rfl
  | 1, _ => exact slice2_axis0_apply (n0 := 384) (n1 := 512) (m := 96) 96 t slices_S384x512_o96_0_S96x512 r tok _ rfl
  | 2, _ => exact slice2_axis0_apply (n0 := 384) (n1 := 512) (m := 96) 192 t slices_S384x512_o192_0_S96x512 r tok _ rfl
  | 3, _ => exact slice2_axis0_apply (n0 := 384) (n1 := 512) (m := 96) 288 t slices_S384x512_o288_0_S96x512 r tok _ rfl

/-- Head `h` of eight from chunk `c0`, at place `r`. -/
theorem head_column (t : ℕ → FVec Ideal S384x512 .f32) (c0 h : ℕ) (r : Fin 96) (tok : Fin 512) :
    head (t (c0 + h / 4)) (h % 4) (ix2 r tok) = column t tok (96 * (4 * c0 + h) + r.val) := by
  rw [head_apply _ _ (Nat.mod_lt _ (by decide))]
  unfold column
  have e1 : (96 * (4 * c0 + h) + r.val) / 384 = c0 + h / 4 := by omega
  have e2 : (96 * (4 * c0 + h) + r.val) % 384 = 96 * (h % 4) + r.val := by omega
  exact congrArg₂ (fun a b => t a (ix2 b tok)) e1.symm (Fin.ext e2.symm)

theorem half1_apply (t : FVec Ideal S96x512 .f32) (r : Fin 48) (tok : Fin 512) :
    half1 t (ix2 r tok) = t (ix2 (⟨r.val, by omega⟩ : Fin 96) tok) :=
  slice2_axis0_apply (n0 := 96) (n1 := 512) (m := 48) 0 t slices_S96x512_o0_0_S48x512 r tok _ (Nat.zero_add _).symm

theorem half2_apply (t : FVec Ideal S96x512 .f32) (r : Fin 48) (tok : Fin 512) :
    half2 t (ix2 r tok) = t (ix2 (⟨48 + r.val, by omega⟩ : Fin 96) tok) :=
  slice2_axis0_apply (n0 := 96) (n1 := 512) (m := 48) 48 t slices_S96x512_o48_0_S48x512 r tok _ rfl

theorem halfTiles_apply (v : FVec Ideal S48x512 .f32) (u w : Fin 1) (a : Fin 6) (b : Fin 8) (tok : Fin 512) :
    halfTiles v (ix5 u w a b tok) = v (ix2 (⟨8 * a.val + b.val, by omega⟩ : Fin 48) tok) := by
  unfold halfTiles
  refine (shapeCast_apply _ shapeCasts_S6x8x512_S1x1x6x8x512 (ix5 u w a b tok) (ix3 a b tok) ?_).trans ?_
  · refine (Shape.rowMajor_val_three _).trans (Eq.trans ?_ (Shape.rowMajor_val_five _).symm)
    simp [ix3, ix5]
  · refine shapeCast_apply v shapeCasts_S48x512_S6x8x512 (ix3 a b tok) _ ?_
    refine (Shape.rowMajor_val_two _).trans (Eq.trans ?_ (Shape.rowMajor_val_three _).symm)
    simp [ix3, ix2]
    omega

theorem plainHead_apply (xs : Vec Ideal S1x512 .f32) (v : FVec Ideal S96x512 .f32) (u w : Fin 1) (a : Fin 12) (b : Fin 8) (tok : Fin 512) :
    plainHead xs v (ix5 u w a b tok) = v (ix2 (⟨8 * a.val + b.val, by omega⟩ : Fin 96) tok) * xs (ix2 (0 : Fin 1) tok) := by
  unfold plainHead
  refine (shapeCast_apply _ shapeCasts_S12x8x512_S1x1x12x8x512 (ix5 u w a b tok) (ix3 a b tok) ?_).trans ?_
  · refine (Shape.rowMajor_val_three _).trans (Eq.trans ?_ (Shape.rowMajor_val_five _).symm)
    simp [ix3, ix5]
  · refine (shapeCast_apply (mulf v (broadcastTo S96x512 xs broadcasts_S1x512_S96x512 : FVec Ideal S96x512 .f32)) shapeCasts_S96x512_S12x8x512 (ix3 a b tok) (ix2 (⟨8 * a.val + b.val, by omega⟩ : Fin 96) tok) ?_).trans ?_
    · refine (Shape.rowMajor_val_two _).trans (Eq.trans ?_ (Shape.rowMajor_val_three _).symm)
      simp [ix3, ix2]
      omega
    · rw [mulf_apply]
      exact congrArg _ (broadcastTo_1b_ab_apply (a := 96) (b := 512) xs _ _ _)

/-- What the stores of eight rotated heads hold. -/
def rotTile (cs sn : FVec Ideal S48x512 .f32) (t : ℕ → FVec Ideal S384x512 .f32) (c0 : ℕ) : Vec Ideal S1x8x12x8x512 .bf16 := fun y =>
  rotVal (column t (y 4)) (fun d => cs (ix2 d (y 4))) (fun d => sn (ix2 d (y 4))) (4 * c0 + (y 1).val) (8 * (y 2).val + (y 3).val)

/-- What the stores of eight heads without rotation hold. -/
def plainTile (xs : Vec Ideal S1x512 .f32) (t : ℕ → FVec Ideal S384x512 .f32) (c0 : ℕ) : Vec Ideal S1x8x12x8x512 .bf16 := fun y =>
  column t (y 4) (96 * (4 * c0 + (y 1).val) + (8 * (y 2).val + (y 3).val)) * xs (ix2 (0 : Fin 1) (y 4))

theorem rotated_apply (cs sn : FVec Ideal S48x512 .f32) (t : ℕ → FVec Ideal S384x512 .f32) (c0 h s : ℕ) (hs : s < 2)
    (u w : Fin 1) (a : Fin 6) (b : Fin 8) (tok : Fin 512) :
    rotated cs sn (head (t (c0 + h / 4)) (h % 4)) (Nat.beq s 1) (ix5 u w a b tok)
      = rotVal (column t tok) (fun d => cs (ix2 d tok)) (fun d => sn (ix2 d tok)) (4 * c0 + h) (8 * (6 * s + a.val) + b.val) := by
  unfold rotated
  rw [halfTiles_apply]
  unfold rotVal
  match s, hs with
  | 0, _ =>
    have e : 8 * (6 * 0 + a.val) + b.val = 8 * a.val + b.val := by omega
    rw [dif_pos (by omega)]
    simp only [e]
    show half1 _ _ * _ - half2 _ _ * _ = _
    rw [half1_apply, half2_apply, head_column, head_column]
  | 1, _ =>
    have e : 8 * (6 * 1 + a.val) + b.val = 48 + (8 * a.val + b.val) := by omega
    rw [dif_neg (by omega), dif_pos (by omega)]
    simp only [e, Nat.add_sub_cancel_left]
    show half2 _ _ * _ + half1 _ _ * _ = _
    rw [half1_apply, half2_apply, head_column, head_column]

theorem holds_rotatedStores (cs sn : FVec Ideal S48x512 .f32) (t : ℕ → FVec Ideal S384x512 .f32) (c0 : ℕ) :
    Holds (rotatedStores cs sn t c0) (rotTile cs sn t c0) :=
  holds_downFrom fun m hm z => by
    obtain ⟨u, w, a, b, tok, rfl⟩ : ∃ (u w : Fin 1) (a : Fin 6) (b : Fin 8) (tok : Fin 512), z = ix5 u w a b tok :=
      ⟨z 0, z 1, z 2, z 3, z 4, eq_ix5 z⟩
    dsimp only
    rw [rotated_apply _ _ _ _ _ _ (Nat.mod_lt _ (by decide))]
    unfold rotTile
    have e1 : m / 2 = ((Rect.unit (s := S1x8x12x8x512) ![0, m / 2, 6 * (m % 2), 0, 0] S1x1x6x8x512.size (half_inb hm)).emb (ix5 u w a b tok) 1).val :=
      unit_emb_val _ _ _ _ _ _ (by show m / 2 + w.val = m / 2; omega)
    have e2 : 6 * (m % 2) + a.val = ((Rect.unit (s := S1x8x12x8x512) ![0, m / 2, 6 * (m % 2), 0, 0] S1x1x6x8x512.size (half_inb hm)).emb (ix5 u w a b tok) 2).val :=
      unit_emb_val _ _ _ _ _ _ rfl
    have e3 : b.val = ((Rect.unit (s := S1x8x12x8x512) ![0, m / 2, 6 * (m % 2), 0, 0] S1x1x6x8x512.size (half_inb hm)).emb (ix5 u w a b tok) 3).val :=
      unit_emb_val _ _ _ _ _ _ (Nat.zero_add _)
    have e4 : tok = (Rect.unit (s := S1x8x12x8x512) ![0, m / 2, 6 * (m % 2), 0, 0] S1x1x6x8x512.size (half_inb hm)).emb (ix5 u w a b tok) 4 :=
      Fin.ext (unit_emb_val _ _ _ _ _ _ (Nat.zero_add _))
    rw [← e1, ← e2, ← e3, ← e4]

theorem holds_plainStores (xs : Vec Ideal S1x512 .f32) (t : ℕ → FVec Ideal S384x512 .f32) (c0 : ℕ) :
    Holds (plainStores xs t c0) (plainTile xs t c0) :=
  holds_downFrom fun m hm z => by
    obtain ⟨u, w, a, b, tok, rfl⟩ : ∃ (u w : Fin 1) (a : Fin 12) (b : Fin 8) (tok : Fin 512), z = ix5 u w a b tok :=
      ⟨z 0, z 1, z 2, z 3, z 4, eq_ix5 z⟩
    dsimp only
    rw [plainHead_apply, head_column]
    unfold plainTile
    have e1 : m = ((Rect.unit (s := S1x8x12x8x512) ![0, m, 0, 0, 0] S1x1x12x8x512.size (head_inb hm)).emb (ix5 u w a b tok) 1).val :=
      unit_emb_val _ _ _ _ _ _ (by show m + w.val = m; omega)
    have e2 : a.val = ((Rect.unit (s := S1x8x12x8x512) ![0, m, 0, 0, 0] S1x1x12x8x512.size (head_inb hm)).emb (ix5 u w a b tok) 2).val :=
      unit_emb_val _ _ _ _ _ _ (Nat.zero_add _)
    have e3 : b.val = ((Rect.unit (s := S1x8x12x8x512) ![0, m, 0, 0, 0] S1x1x12x8x512.size (head_inb hm)).emb (ix5 u w a b tok) 3).val :=
      unit_emb_val _ _ _ _ _ _ (Nat.zero_add _)
    have e4 : tok = (Rect.unit (s := S1x8x12x8x512) ![0, m, 0, 0, 0] S1x1x12x8x512.size (head_inb hm)).emb (ix5 u w a b tok) 4 :=
      Fin.ext (unit_emb_val _ _ _ _ _ _ (Nat.zero_add _))
    rw [← e1, ← e2, ← e3, ← e4]

theorem reaches_rotatedStores (cs sn : FVec Ideal S48x512 .f32) (t : ℕ → FVec Ideal S384x512 .f32) (c0 : ℕ) (y : S1x8x12x8x512.Idx) :
    Reaches (rotatedStores cs sn t c0) y := by
  have h0 : (y 0).val < 1 := (y 0).isLt
  have h1 : (y 1).val < 8 := (y 1).isLt
  have h2 : (y 2).val < 12 := (y 2).isLt
  have h3 : (y 3).val < 8 := (y 3).isLt
  have h4 : (y 4).val < 512 := (y 4).isLt
  refine reaches_downFrom (2 * (y 1).val + (y 2).val / 6) (by omega) ?_
  dsimp only
  rw [Rect.mem_set_unit]
  intro d
  match d with
  | ⟨0, _⟩ => simp [S1x1x6x8x512] <;> omega
  | ⟨1, _⟩ => simp [S1x1x6x8x512] <;> omega
  | ⟨2, _⟩ => simp [S1x1x6x8x512] <;> omega
  | ⟨3, _⟩ => simp [S1x1x6x8x512] <;> omega
  | ⟨4, _⟩ => simp [S1x1x6x8x512] <;> omega

theorem reaches_plainStores (xs : Vec Ideal S1x512 .f32) (t : ℕ → FVec Ideal S384x512 .f32) (c0 : ℕ) (y : S1x8x12x8x512.Idx) :
    Reaches (plainStores xs t c0) y := by
  have h0 : (y 0).val < 1 := (y 0).isLt
  have h1 : (y 1).val < 8 := (y 1).isLt
  have h2 : (y 2).val < 12 := (y 2).isLt
  have h3 : (y 3).val < 8 := (y 3).isLt
  have h4 : (y 4).val < 512 := (y 4).isLt
  refine reaches_downFrom (y 1).val h1 ?_
  dsimp only
  rw [Rect.mem_set_unit]
  intro d
  match d with
  | ⟨0, _⟩ => simp [S1x1x12x8x512] <;> omega
  | ⟨1, _⟩ => simp [S1x1x12x8x512] <;> omega
  | ⟨2, _⟩ => simp [S1x1x12x8x512] <;> omega
  | ⟨3, _⟩ => simp [S1x1x12x8x512] <;> omega
  | ⟨4, _⟩ => simp [S1x1x12x8x512] <;> omega

/-! ## The product -/

theorem lit_zero_one : Ideal.ofBits .f32 0x00000000#32 = 0 ∧ Ideal.ofBits .f32 0x3F800000#32 = 1 := by
  constructor
  · simp [Ideal.ofBits, Ideal.ieee]
  · rw [lit_f32_p2.1]
    simp [Scale.p2]

theorem dot_proj_eq : dot_S384x3072_S512x3072_S384x512_1_1_0_0_n_n = DotDims.transposedRhs 384 3072 512 := rfl

theorem chunk_apply (w : Vec Ideal S384x3072 .fp8e4m3) (codes : FVec Ideal S512x3072 .fp8e4m3) (ws : Vec Ideal S384x512 .f32)
    (r : Fin 384) (tok : Fin 512) :
    chunk w codes ws (ix2 r tok) = (∑ k : Fin 3072, w (ix2 r k) * codes (ix2 tok k)) * ws (ix2 r tok) := by
  unfold chunk
  rw [mulf_apply]
  refine congrArg (· * ws (ix2 r tok)) ?_
  refine (Ideal.matmul_transposedRhs_apply none w codes _ r tok).trans ?_
  rw [show (constant S384x512 .f32 0x00000000#32 : FVec Ideal S384x512 .f32) (ix2 r tok) = 0 from lit_zero_one.1, zero_add]

/-! ## The weights -/

variable (a4 : Memref sig .tc .vmem S3072x2304 .fp8e4m3) (h4 : a4.IsWhole) (a5 : Memref sig .tc .vmem S1x2304 .f32) (h5 : a5.IsWhole)

/-- The weights transposed. -/
def wtTile (w : Vec Ideal S3072x2304 .fp8e4m3) : Vec Ideal S2304x3072 .fp8e4m3 := fun y => w (ix2 (y 1) (y 0))

/-- The weights' scales, in every column. -/
def wsbTile (ws : Vec Ideal S1x2304 .f32) : Vec Ideal S2304x512 .f32 := fun y => ws (ix2 (0 : Fin 1) (y 0))

/-- The unit matrix. -/
theorem eye_apply (i j : Fin 256) : (k0_pay3 : FVec Ideal S256x256 .fp8e4m3) (ix2 i j) = if i = j then 1 else 0 := by
  show Scalar.select (BitVec.ofBool (BitVec.ofNat 32 (0 * 256 + i.val) == BitVec.ofNat 32 (0 * 256 + j.val)))
    (Ideal.ofBits .f32 0x3F800000#32) (Ideal.ofBits .f32 0x00000000#32) = _
  rw [sel_ofBool, lit_zero_one.1, lit_zero_one.2]
  refine if_congr ?_ rfl rfl
  rw [beq_iff_eq, ← BitVec.toNat_inj, BitVec.toNat_ofNat, BitVec.toNat_ofNat, Fin.ext_iff]
  omega

theorem holds_wtStores (w : Vec Ideal S3072x2304 .fp8e4m3) : Holds (wtStores a4 h4 w) (wtTile w) :=
  holds_downFrom fun m hm z => by
    obtain ⟨r, k, rfl⟩ : ∃ (r : Fin 256) (k : Fin 3072), z = ix2 r k := ⟨z 0, z 1, eq_ix2 z⟩
    dsimp only
    rw [shapeCast_self]
    refine (Ideal.matmul_transposedRhs_apply (M := 256) (K := 256) (N := 3072) (φ₂ := .fp8e4m3) none k0_pay3 _ _ r k).trans ?_
    rw [show (constant S256x3072 .f32 0x00000000#32 : FVec Ideal S256x3072 .f32) (ix2 r k) = 0 from lit_zero_one.1, zero_add]
    simp only [eye_apply, ite_mul, zero_mul, one_mul, Finset.sum_ite_eq, Finset.mem_univ, if_true]
    refine readAt_unit a4 h4 w _ _ _ _ _ fun d => ?_
    match d with
    | ⟨0, _⟩ => exact (Nat.zero_add _).trans (unit_emb_val _ _ _ _ _ _ (Nat.zero_add _))
    | ⟨1, _⟩ => exact unit_emb_val _ _ _ _ _ _ rfl

theorem reaches_wtStores (w : Vec Ideal S3072x2304 .fp8e4m3) (y : S2304x3072.Idx) : Reaches (wtStores a4 h4 w) y := by
  have h0 : (y 0).val < 2304 := (y 0).isLt
  have h1 : (y 1).val < 3072 := (y 1).isLt
  refine reaches_downFrom ((y 0).val / 256) (by omega) ?_
  dsimp only
  rw [Rect.mem_set_unit]
  intro d
  match d with
  | ⟨0, _⟩ => simp [S256x3072] <;> omega
  | ⟨1, _⟩ => simp [S256x3072] <;> omega

theorem holds_wsbStores (ws : Vec Ideal S1x2304 .f32) : Holds (wsbStores a5 h5 ws) (wsbTile ws) :=
  holds_downFrom fun m hm z => by
    obtain ⟨n, t, rfl⟩ : ∃ (n : Fin 2304) (t : Fin 128), z = ix2 n t := ⟨z 0, z 1, eq_ix2 z⟩
    dsimp only
    rw [shapeCast_self, shapeCast_self]
    refine (transpose_ix2_apply (a := 128) (b := 2304) _ transposes_S128x2304_p1_0_S2304x128 n t).trans ?_
    refine (broadcastTo_1b_ab_apply (a := 128) (b := 2304) _ broadcasts_S1x2304_S128x2304 t n).trans ?_
    refine (congrFun (shapeCast_self _ shapeCasts_S1x2304_S1x2304) _).trans ?_
    refine readAt_unit a5 h5 ws _ _ _ _ _ fun d => ?_
    match d with
    | ⟨0, _⟩ => rfl
    | ⟨1, _⟩ => exact (Nat.zero_add _).trans (unit_emb_val _ _ _ _ _ _ (Nat.zero_add _))

theorem reaches_wsbStores (ws : Vec Ideal S1x2304 .f32) (y : S2304x512.Idx) : Reaches (wsbStores a5 h5 ws) y := by
  have h0 : (y 0).val < 2304 := (y 0).isLt
  have h1 : (y 1).val < 512 := (y 1).isLt
  refine reaches_downFrom ((y 1).val / 128) (by omega) ?_
  dsimp only
  rw [Rect.mem_set_unit]
  intro d
  match d with
  | ⟨0, _⟩ => simp [S2304x128] <;> omega
  | ⟨1, _⟩ => simp [S2304x128] <;> omega

end Cert.KernelIdeal.Body

end
-- ==== Proof.Spec.lean ====
/-
What each grid point of the kernel leaves, over the extended reals, in terms of the blocks of its arguments: the codes and the
scales of the tile quantised, and the rotated heads of the tile projected.
-/
module

public import proofs.«01_k».proof.Proof.ProjectValue

@[expose] public section

set_option maxRecDepth 4096

noncomputable section

namespace Cert.KernelIdeal.Body

open Idealize.ShloMosaic Idealize.ShloMosaic.TcCoe Idealize.ShloMosaic.ValueIdx
open Cert.KernelIdeal Cert.KernelIdeal.Gen

/-! ## A tile's product with the weights -/

/-- Column `n` of a row of codes times the weights, times the weights' scale. -/
def prodCol (W : Vec Ideal S3072x2304 .fp8e4m3) (S : Vec Ideal S1x2304 .f32) (C : Fin 3072 → EReal) (n : ℕ) : EReal :=
  if h : n < 2304 then (∑ k : Fin 3072, W (ix2 k ⟨n, h⟩) * C k) * S (ix2 (0 : Fin 1) ⟨n, h⟩) else 0

/-- The angle of a position and a frequency. -/
def angle (p : BitVec 32) (f : EReal) : EReal := (FloatOps.sitofp .f32 p : Ideal .f32) * f

/-- The rotated heads of a tile: `C` its codes, `X` its scales, `p` its positions, `f` the frequencies. -/
def rotOut (W : Vec Ideal S3072x2304 .fp8e4m3) (S : Vec Ideal S1x2304 .f32) (C : Fin 512 → Fin 3072 → EReal) (X : Fin 512 → EReal)
    (p : Fin 512 → BitVec 32) (f : Fin 48 → Fin 512 → EReal) (c0 : ℕ) : Vec Ideal S1x8x12x8x512 .bf16 := fun y =>
  rotVal (prodCol W S (C (y 4))) (fun d => (FloatOps.cos (angle (p (y 4)) (f d (y 4))) : Ideal .f32) * X (y 4))
    (fun d => (FloatOps.sin (angle (p (y 4)) (f d (y 4))) : Ideal .f32) * X (y 4)) (4 * c0 + (y 1).val) (8 * (y 2).val + (y 3).val)

/-- The heads of a tile without rotation. -/
def plainOut (W : Vec Ideal S3072x2304 .fp8e4m3) (S : Vec Ideal S1x2304 .f32) (C : Fin 512 → Fin 3072 → EReal) (X : Fin 512 → EReal)
    (c0 : ℕ) : Vec Ideal S1x8x12x8x512 .bf16 := fun y =>
  prodCol W S (C (y 4)) (96 * (4 * c0 + (y 1).val) + (8 * (y 2).val + (y 3).val)) * X (y 4)

/-! ## The loads -/

section Loads

variable (a3 : Memref sig .tc .vmem S6x2048 .i32) (h3 : a3.IsWhole) (a6 : Memref sig .tc .vmem S48x512 .f32) (h6 : a6.IsWhole)
  (a12 : Memref sig .tc .vmem S2304x3072 .fp8e4m3) (h12 : a12.IsWhole) (a13 : Memref sig .tc .vmem S2304x512 .f32) (h13 : a13.IsWhole)
  (a15 : Memref sig .tc .vmem S2x512x3072 .fp8e4m3) (h15 : a15.IsWhole) (a16 : Memref sig .tc .vmem S8x512 .f32) (h16 : a16.IsWhole)
  (i : grid0.Coords) (hc : k0_cond2 i = 1#1)

theorem posL_apply (pos : Vec Ideal S6x2048 .i32) (b : Fin 6) (q : ℕ) (hq : q < 4) (ho : k0_off98 i = ![b.val, 512 * q]) (j : Fin 512) :
    posL a3 h3 i hc pos (ix2 (0 : Fin 1) j) = pos (ix2 b (⟨512 * q + j.val, by omega⟩ : Fin 2048)) :=
  readAt_unit a3 h3 pos _ _ _ _ _ fun d => by
    refine (congrArg (· + _) (congrFun ho d)).trans ?_
    match d with
    | ⟨0, _⟩ => rfl
    | ⟨1, _⟩ => rfl

theorem freqL_apply (fr : Vec Ideal S48x512 .f32) (d : Fin 48) (j : Fin 512) : freqL a6 h6 fr (ix2 d j) = fr (ix2 d j) :=
  readAt_unit a6 h6 fr _ _ _ _ _ fun d => by
    match d with
    | ⟨0, _⟩ => exact Nat.zero_add _
    | ⟨1, _⟩ => exact Nat.zero_add _

theorem scaleL_apply (xr : Vec Ideal S8x512 .f32) (j : Fin 512) : scaleL a16 h16 xr (ix2 (0 : Fin 1) j) = xr (ix2 (0 : Fin 8) j) :=
  readAt_unit a16 h16 xr _ _ _ _ _ fun d => by
    match d with
    | ⟨0, _⟩ => rfl
    | ⟨1, _⟩ => exact Nat.zero_add _

theorem codesL_apply (cs : Vec Ideal S2x512x3072 .fp8e4m3) (s : Fin 2) (ho : k0_off99 i = ![s.val, 0, 0]) (r : Fin 512) (k : Fin 3072) :
    codesL a15 h15 i hc cs (ix2 r k) = cs (ix3 s r k) := by
  unfold codesL
  refine (shapeCast_1ab_ab_apply (a := 512) (b := 3072) _ shapeCasts_S1x512x3072_S512x3072 r k).trans ?_
  refine readAt_unit a15 h15 cs _ _ _ _ _ fun d => ?_
  refine (congrArg (· + _) (congrFun ho d)).trans ?_
  match d with
  | ⟨0, _⟩ => rfl
  | ⟨1, _⟩ => exact Nat.zero_add _
  | ⟨2, _⟩ => exact Nat.zero_add _

/-- The chunks of the product, by number. -/
def chunksL (wt : Vec Ideal S2304x3072 .fp8e4m3) (wsb : Vec Ideal S2304x512 .f32) (cs : Vec Ideal S2x512x3072 .fp8e4m3) (n : ℕ) :
    FVec Ideal S384x512 .f32 :=
  if h : n < 6 then chunkL a12 h12 a13 h13 a15 h15 i hc wt wsb cs n h else fun _ => Scalar.ofBits .f32 0#32

theorem column_chunksL (W : Vec Ideal S3072x2304 .fp8e4m3) (S : Vec Ideal S1x2304 .f32) (cs : Vec Ideal S2x512x3072 .fp8e4m3)
    (C : Fin 512 → Fin 3072 → EReal) (s : Fin 2) (ho : k0_off99 i = ![s.val, 0, 0]) (hC : ∀ r k, cs (ix3 s r k) = C r k) (tok : Fin 512) (n : ℕ) :
    column (chunksL a12 h12 a13 h13 a15 h15 i hc (wtTile W) (wsbTile S) cs) tok n = prodCol W S (C tok) n := by
  unfold column chunksL prodCol
  by_cases h : n < 2304
  · rw [dif_pos (show n / 384 < 6 by omega), dif_pos h]
    unfold chunkL
    rw [chunk_apply]
    refine congrArg₂ (· * ·) (Finset.sum_congr rfl fun k _ => congrArg₂ (· * ·) ?_ ?_) ?_
    · refine (readAt_unit a12 h12 (wtTile W) _ _ _ _ (ix2 (⟨n, h⟩ : Fin 2304) k) fun d => ?_).trans rfl
      match d with
      | ⟨0, _⟩ => exact Nat.div_add_mod n 384
      | ⟨1, _⟩ => exact Nat.zero_add _
    · rw [codesL_apply a15 h15 i hc cs s ho, hC]
    · refine (readAt_unit a13 h13 (wsbTile S) _ _ _ _ (ix2 (⟨n, h⟩ : Fin 2304) tok) fun d => ?_).trans rfl
      match d with
      | ⟨0, _⟩ => exact Nat.div_add_mod n 384
      | ⟨1, _⟩ => exact Nat.zero_add _
  · rw [dif_neg (show ¬n / 384 < 6 by omega), dif_neg h]
    exact lit_zero_one.1

theorem cosT_apply (pos : Vec Ideal S1x512 .i32) (fr : Vec Ideal S48x512 .f32) (xs : Vec Ideal S1x512 .f32) (d : Fin 48) (j : Fin 512) :
    cosT pos fr xs (ix2 d j) = (FloatOps.cos (angle (pos (ix2 (0 : Fin 1) j)) (fr (ix2 d j))) : Ideal .f32) * xs (ix2 (0 : Fin 1) j) := by
  unfold cosT angles
  rw [mulf_apply, shapeCast_self]
  refine congrArg₂ (· * ·) (congrArg FloatOps.cos (congrArg (· * fr (ix2 d j)) ?_)) ?_
  · exact broadcastTo_1b_ab_apply (a := 48) (b := 512) _ broadcasts_S1x512_S48x512 d j
  · exact broadcastTo_1b_ab_apply (a := 48) (b := 512) xs broadcasts_S1x512_S48x512 d j

theorem sinT_apply (pos : Vec Ideal S1x512 .i32) (fr : Vec Ideal S48x512 .f32) (xs : Vec Ideal S1x512 .f32) (d : Fin 48) (j : Fin 512) :
    sinT pos fr xs (ix2 d j) = (FloatOps.sin (angle (pos (ix2 (0 : Fin 1) j)) (fr (ix2 d j))) : Ideal .f32) * xs (ix2 (0 : Fin 1) j) := by
  unfold sinT angles
  rw [mulf_apply, shapeCast_self]
  refine congrArg₂ (· * ·) (congrArg FloatOps.sin (congrArg (· * fr (ix2 d j)) ?_)) ?_
  · exact broadcastTo_1b_ab_apply (a := 48) (b := 512) _ broadcasts_S1x512_S48x512 d j
  · exact broadcastTo_1b_ab_apply (a := 48) (b := 512) xs broadcasts_S1x512_S48x512 d j

variable (W : Vec Ideal S3072x2304 .fp8e4m3) (S : Vec Ideal S1x2304 .f32) (cs : Vec Ideal S2x512x3072 .fp8e4m3)
  (C : Fin 512 → Fin 3072 → EReal) (s : Fin 2) (ho99 : k0_off99 i = ![s.val, 0, 0]) (hC : ∀ r k, cs (ix3 s r k) = C r k)
  (X : Fin 512 → EReal) (xr : Vec Ideal S8x512 .f32) (hX : ∀ j, xr (ix2 (0 : Fin 8) j) = X j)
  (pos : Vec Ideal S6x2048 .i32) (b : Fin 6) (q : ℕ) (hq : q < 4) (ho98 : k0_off98 i = ![b.val, 512 * q]) (fr : Vec Ideal S48x512 .f32)

include ho99 hC hX ho98

theorem rotTile_eq (c0 : ℕ) :
    rotTile (cosT (posL a3 h3 i hc pos) (freqL a6 h6 fr) (scaleL a16 h16 xr)) (sinT (posL a3 h3 i hc pos) (freqL a6 h6 fr) (scaleL a16 h16 xr))
        (chunksL a12 h12 a13 h13 a15 h15 i hc (wtTile W) (wsbTile S) cs) c0
      = rotOut W S C X (fun j => pos (ix2 b (⟨512 * q + j.val, by omega⟩ : Fin 2048))) (fun d j => fr (ix2 d j)) c0 := by
  funext y
  unfold rotTile rotOut
  congr 1
  · exact funext fun n => column_chunksL a12 h12 a13 h13 a15 h15 i hc W S cs C s ho99 hC _ n
  · funext d
    refine (cosT_apply _ _ _ d (y 4)).trans (congrArg₂ (· * ·) (congrArg FloatOps.cos (congrArg₂ angle ?_ ?_)) ?_)
    · exact posL_apply a3 h3 i hc pos b q hq ho98 _
    · exact freqL_apply a6 h6 fr d _
    · exact (scaleL_apply a16 h16 xr _).trans (hX _)
  · funext d
    refine (sinT_apply _ _ _ d (y 4)).trans (congrArg₂ (· * ·) (congrArg FloatOps.sin (congrArg₂ angle ?_ ?_)) ?_)
    · exact posL_apply a3 h3 i hc pos b q hq ho98 _
    · exact freqL_apply a6 h6 fr d _
    · exact (scaleL_apply a16 h16 xr _).trans (hX _)

omit ho98 in
theorem plainTile_eq (c0 : ℕ) :
    plainTile (scaleL a16 h16 xr) (chunksL a12 h12 a13 h13 a15 h15 i hc (wtTile W) (wsbTile S) cs) c0 = plainOut W S C X c0 := by
  funext y
  unfold plainTile plainOut
  exact congrArg₂ (· * ·) (column_chunksL a12 h12 a13 h13 a15 h15 i hc W S cs C s ho99 hC _ _) ((scaleL_apply a16 h16 xr _).trans (hX _))

end Loads

end Cert.KernelIdeal.Body

end
-- ==== Proof.Reads.lean ====
/-
What each buffer holds after the body of the kernel, at the first grid point and at the later ones.
-/
module

public import proofs.«01_k».proof.Proof.FirstBlocks
public import proofs.«01_k».proof.Proof.LaterBlocks
public import proofs.«01_k».proof.Proof.Spec

@[expose] public section

set_option maxRecDepth 16384

noncomputable section

namespace Cert.KernelIdeal.Body

open Idealize.ShloMosaic Idealize.ShloMosaic.TcCoe Idealize.ShloMosaic.ValueIdx
open Cert.KernelIdeal Cert.KernelIdeal.Gen

/-! ## The first grid point -/

section First

variable {c : Dev nD} {i : grid0.Coords}
    {arg1 : Memref sig .tc .vmem S512x3072 .bf16} {harg1 : arg1.IsWhole} {arg2 : Memref sig .tc .vmem S1x3072 .f32} {harg2 : arg2.IsWhole} {arg3 : Memref sig .tc .vmem S6x2048 .i32} {harg3 : arg3.IsWhole} {arg4 : Memref sig .tc .vmem S3072x2304 .fp8e4m3} {harg4 : arg4.IsWhole} {arg5 : Memref sig .tc .vmem S1x2304 .f32} {harg5 : arg5.IsWhole} {arg6 : Memref sig .tc .vmem S48x512 .f32} {harg6 : arg6.IsWhole} {arg7 : Memref sig .tc .vmem S1x8x12x8x512 .bf16} {harg7 : arg7.IsWhole} {arg8 : Memref sig .tc .vmem S1x8x12x8x512 .bf16} {harg8 : arg8.IsWhole} {arg9 : Memref sig .tc .vmem S1x8x12x8x512 .bf16} {harg9 : arg9.IsWhole} {arg10 : Memref sig .tc .vmem S512x3072 .fp8e4m3} {harg10 : arg10.IsWhole} {arg11 : Memref sig .tc .vmem S1x1x512 .f32} {harg11 : arg11.IsWhole} {arg12 : Memref sig .tc .vmem S2304x3072 .fp8e4m3} {harg12 : arg12.IsWhole} {arg13 : Memref sig .tc .vmem S2304x512 .f32} {harg13 : arg13.IsWhole} {arg14 : Memref sig .tc .vmem S512x3072 .f32} {harg14 : arg14.IsWhole} {arg15 : Memref sig .tc .vmem S2x512x3072 .fp8e4m3} {harg15 : arg15.IsWhole} {arg16 : Memref sig .tc .vmem S8x512 .f32} {harg16 : arg16.IsWhole}
    {hc0 : k0_cond1 i = 1#1} {hc1 : ¬k0_cond2 i = 1#1}
    {x0 : Vec Ideal S512x3072 .bf16} {x1 : Vec Ideal S1x3072 .f32} {x2 : Vec Ideal S6x2048 .i32} {x3 : Vec Ideal S3072x2304 .fp8e4m3} {x4 : Vec Ideal S1x2304 .f32} {x5 : Vec Ideal S48x512 .f32} {y7 : Vec Ideal S1x8x12x8x512 .bf16} {y8 : Vec Ideal S1x8x12x8x512 .bf16} {y9 : Vec Ideal S1x8x12x8x512 .bf16} {cs : Vec Ideal S2x512x3072 .fp8e4m3}

theorem first_from (c : Dev nD) : FromTile arg1 harg1 arg2 harg2 x0 x1 (firstH c arg1 harg1 arg2 harg2 x0 x1) (firstInv c arg1 harg1 arg2 harg2 x0 x1) :=
  ⟨fun b hb => ⟨_, firstH_eq c arg1 harg1 arg2 harg2 x0 x1 b hb⟩, fun b hb => firstInv_eq c arg1 harg1 arg2 harg2 x0 x1 b hb⟩

theorem first_read_codes (f : arg10.view.ty.Contents (Elt Ideal)) :
    arg10.view.read (Elt Ideal) (arg10.view.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 y7 y8 y9 cs).1)
      = codeTile x0 x1 := by
  rw [first_codes]
  exact read_of_holds _ f (holds_cStores arg14 (first_from c)) (reaches_cStores arg14)

theorem first_read_scaleOut (f : arg11.view.ty.Contents (Elt Ideal)) :
    arg11.view.read (Elt Ideal) (arg11.view.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 y7 y8 y9 cs).2.1)
      = fun j => scaleRowOf x0 x1 (j 2) := by
  rw [first_scaleOut]
  exact read_of_holds _ f (holds_scaleOutStores arg1 harg1 arg2 harg2 x0 x1) (reaches_scaleOutStores arg1 harg1 arg2 harg2 x0 x1)

theorem first_read_scale (f : arg16.view.ty.Contents (Elt Ideal)) :
    arg16.view.read (Elt Ideal) (arg16.view.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 y7 y8 y9 cs).2.2.2.2.2.2.1)
      = fun j => scaleRowOf x0 x1 (j 1) := by
  rw [first_scale]
  exact read_of_holds _ f (holds_scaleStores arg1 harg1 arg2 harg2 x0 x1) (reaches_scaleStores arg1 harg1 arg2 harg2 x0 x1)

theorem first_read_slot (f : arg15.view.ty.Contents (Elt Ideal)) (j : S2x512x3072.Idx) (hj : (j 0).val = (i 0).val % 2) :
    arg15.view.read (Elt Ideal) (arg15.view.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 y7 y8 y9 cs).2.2.2.2.2.1) j
      = slotTile (codeTile x0 x1) j := by
  rw [first_slot]
  exact View.read_writes_apply_of_pieces _ f _ _ (holds_slotStores arg14 (first_from c) _ _) j (reaches_slotStores arg14 _ _ j hj)

theorem first_read_wt (f : arg12.view.ty.Contents (Elt Ideal)) :
    arg12.view.read (Elt Ideal) (arg12.view.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 y7 y8 y9 cs).2.2.1)
      = wtTile x3 := by
  rw [first_wt]
  exact read_of_holds _ f (holds_wtStores arg4 harg4 x3) (reaches_wtStores arg4 harg4 x3)

theorem first_read_wsb (f : arg13.view.ty.Contents (Elt Ideal)) :
    arg13.view.read (Elt Ideal) (arg13.view.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 y7 y8 y9 cs).2.2.2.1)
      = wsbTile x4 := by
  rw [first_wsb]
  exact read_of_holds _ f (holds_wsbStores arg5 harg5 x4) (reaches_wsbStores arg5 harg5 x4)

end First

/-! ## The later grid points -/

section Later

variable {c : Dev nD} {i : grid0.Coords}
    {arg1 : Memref sig .tc .vmem S512x3072 .bf16} {harg1 : arg1.IsWhole} {arg2 : Memref sig .tc .vmem S1x3072 .f32} {harg2 : arg2.IsWhole} {arg3 : Memref sig .tc .vmem S6x2048 .i32} {harg3 : arg3.IsWhole} {arg4 : Memref sig .tc .vmem S3072x2304 .fp8e4m3} {harg4 : arg4.IsWhole} {arg5 : Memref sig .tc .vmem S1x2304 .f32} {harg5 : arg5.IsWhole} {arg6 : Memref sig .tc .vmem S48x512 .f32} {harg6 : arg6.IsWhole} {arg7 : Memref sig .tc .vmem S1x8x12x8x512 .bf16} {harg7 : arg7.IsWhole} {arg8 : Memref sig .tc .vmem S1x8x12x8x512 .bf16} {harg8 : arg8.IsWhole} {arg9 : Memref sig .tc .vmem S1x8x12x8x512 .bf16} {harg9 : arg9.IsWhole} {arg10 : Memref sig .tc .vmem S512x3072 .fp8e4m3} {harg10 : arg10.IsWhole} {arg11 : Memref sig .tc .vmem S1x1x512 .f32} {harg11 : arg11.IsWhole} {arg12 : Memref sig .tc .vmem S2304x3072 .fp8e4m3} {harg12 : arg12.IsWhole} {arg13 : Memref sig .tc .vmem S2304x512 .f32} {harg13 : arg13.IsWhole} {arg14 : Memref sig .tc .vmem S512x3072 .f32} {harg14 : arg14.IsWhole} {arg15 : Memref sig .tc .vmem S2x512x3072 .fp8e4m3} {harg15 : arg15.IsWhole} {arg16 : Memref sig .tc .vmem S8x512 .f32} {harg16 : arg16.IsWhole}
    {hc0 : ¬k0_cond1 i = 1#1} {hc1 : k0_cond2 i = 1#1}
    {x0 : Vec Ideal S512x3072 .bf16} {x1 : Vec Ideal S1x3072 .f32} {x2 : Vec Ideal S6x2048 .i32} {x3 : Vec Ideal S3072x2304 .fp8e4m3} {x4 : Vec Ideal S1x2304 .f32} {x5 : Vec Ideal S48x512 .f32} {wt : Vec Ideal S2304x3072 .fp8e4m3} {wsb : Vec Ideal S2304x512 .f32} {cs : Vec Ideal S2x512x3072 .fp8e4m3} {xr : Vec Ideal S8x512 .f32}

theorem later_from (c : Dev nD) : FromTile arg1 harg1 arg2 harg2 x0 x1 (laterH c arg1 harg1 arg2 harg2 x0 x1) (laterInv c arg1 harg1 arg2 harg2 x0 x1) :=
  ⟨fun b hb => ⟨_, laterH_eq c arg1 harg1 arg2 harg2 x0 x1 b hb⟩, fun b hb => laterInv_eq c arg1 harg1 arg2 harg2 x0 x1 b hb⟩

theorem later_read_codes (f : arg10.view.ty.Contents (Elt Ideal)) :
    arg10.view.read (Elt Ideal) (arg10.view.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 wt wsb cs xr).2.2.2.1)
      = codeTile x0 x1 := by
  rw [later_codes]
  exact read_of_holds _ f (holds_cStores arg14 (later_from c)) (reaches_cStores arg14)

theorem later_read_scaleOut (f : arg11.view.ty.Contents (Elt Ideal)) :
    arg11.view.read (Elt Ideal) (arg11.view.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 wt wsb cs xr).2.2.2.2.1)
      = fun j => scaleRowOf x0 x1 (j 2) := by
  rw [later_scaleOut]
  exact read_of_holds _ f (holds_scaleOutStores arg1 harg1 arg2 harg2 x0 x1) (reaches_scaleOutStores arg1 harg1 arg2 harg2 x0 x1)

theorem later_read_scale (f : arg16.view.ty.Contents (Elt Ideal)) :
    arg16.view.read (Elt Ideal) (arg16.view.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 wt wsb cs xr).2.2.2.2.2.2.2.1)
      = fun j => scaleRowOf x0 x1 (j 1) := by
  rw [later_scale]
  exact read_of_holds _ f (holds_scaleStores arg1 harg1 arg2 harg2 x0 x1) (reaches_scaleStores arg1 harg1 arg2 harg2 x0 x1)

theorem later_read_slot (f : arg15.view.ty.Contents (Elt Ideal)) (j : S2x512x3072.Idx) (hj : (j 0).val = (i 0).val % 2) :
    arg15.view.read (Elt Ideal) (arg15.view.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 wt wsb cs xr).2.2.2.2.2.2.1) j
      = slotTile (codeTile x0 x1) j := by
  rw [later_slot]
  exact View.read_writes_apply_of_pieces _ f _ _ (holds_slotStores arg14 (later_from c) _ _) j (reaches_slotStores arg14 _ _ j hj)

theorem later_read_q (W : Vec Ideal S3072x2304 .fp8e4m3) (hW : wt = wtTile W) (S : Vec Ideal S1x2304 .f32) (hS : wsb = wsbTile S)
    (C : Fin 512 → Fin 3072 → EReal) (s : Fin 2) (ho99 : k0_off99 i = ![s.val, 0, 0]) (hC : ∀ r k, cs (ix3 s r k) = C r k)
    (X : Fin 512 → EReal) (hX : ∀ j, xr (ix2 (0 : Fin 8) j) = X j)
    (b : Fin 6) (q : ℕ) (hq : q < 4) (ho98 : k0_off98 i = ![b.val, 512 * q]) (f : arg7.view.ty.Contents (Elt Ideal)) :
    arg7.view.read (Elt Ideal) (arg7.view.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 wt wsb cs xr).1)
      = rotOut W S C X (fun j => x2 (ix2 b (⟨512 * q + j.val, by omega⟩ : Fin 2048))) (fun d j => x5 (ix2 d j)) 0 := by
  rw [later_q]
  subst hW hS
  exact (read_of_holds _ f (holds_rotatedStores _ _ _ 0) (reaches_rotatedStores _ _ _ 0)).trans
    (rotTile_eq arg3 harg3 arg6 harg6 arg12 harg12 arg13 harg13 arg15 harg15 arg16 harg16 i hc1 W S cs C s ho99 hC X xr hX x2 b q hq ho98 x5 0)

theorem later_read_k (W : Vec Ideal S3072x2304 .fp8e4m3) (hW : wt = wtTile W) (S : Vec Ideal S1x2304 .f32) (hS : wsb = wsbTile S)
    (C : Fin 512 → Fin 3072 → EReal) (s : Fin 2) (ho99 : k0_off99 i = ![s.val, 0, 0]) (hC : ∀ r k, cs (ix3 s r k) = C r k)
    (X : Fin 512 → EReal) (hX : ∀ j, xr (ix2 (0 : Fin 8) j) = X j)
    (b : Fin 6) (q : ℕ) (hq : q < 4) (ho98 : k0_off98 i = ![b.val, 512 * q]) (f : arg8.view.ty.Contents (Elt Ideal)) :
    arg8.view.read (Elt Ideal) (arg8.view.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 wt wsb cs xr).2.1)
      = rotOut W S C X (fun j => x2 (ix2 b (⟨512 * q + j.val, by omega⟩ : Fin 2048))) (fun d j => x5 (ix2 d j)) 2 := by
  rw [later_k]
  subst hW hS
  exact (read_of_holds _ f (holds_rotatedStores _ _ _ 2) (reaches_rotatedStores _ _ _ 2)).trans
    (rotTile_eq arg3 harg3 arg6 harg6 arg12 harg12 arg13 harg13 arg15 harg15 arg16 harg16 i hc1 W S cs C s ho99 hC X xr hX x2 b q hq ho98 x5 2)

theorem later_read_v (W : Vec Ideal S3072x2304 .fp8e4m3) (hW : wt = wtTile W) (S : Vec Ideal S1x2304 .f32) (hS : wsb = wsbTile S)
    (C : Fin 512 → Fin 3072 → EReal) (s : Fin 2) (ho99 : k0_off99 i = ![s.val, 0, 0]) (hC : ∀ r k, cs (ix3 s r k) = C r k)
    (X : Fin 512 → EReal) (hX : ∀ j, xr (ix2 (0 : Fin 8) j) = X j) (f : arg9.view.ty.Contents (Elt Ideal)) :
    arg9.view.read (Elt Ideal) (arg9.view.writes (Elt Ideal) f (runLater (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 wt wsb cs xr).2.2.1)
      = plainOut W S C X 4 := by
  rw [later_v]
  subst hW hS
  exact (read_of_holds _ f (holds_plainStores _ _ 4) (reaches_plainStores _ _ 4)).trans
    (plainTile_eq arg12 harg12 arg13 harg13 arg15 harg15 arg16 harg16 i hc1 W S cs C s ho99 hC X xr hX 4)

end Later

end Cert.KernelIdeal.Body

end
-- ==== Proof.Region.lean ====
/-
The region of the kernel over the extended reals: what every window's buffer and the scratch hold after each grid point, the body's
triple at a point, and the run.
-/
module

public import proofs.«01_k».proof.Proof.Kit
public import proofs.«01_k».proof.Proof.Reads
public import Idealize.ShloMosaic.Lib.Claim

@[expose] public section

set_option maxRecDepth 16384

noncomputable section

namespace Cert.KernelIdeal.Body

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The blocks, and what the points leave -/

def xAt (c : Dev nD) (t : Fin cfg0.N) : Vec Ideal S512x3072 .bf16 := iblk m c 0 t
def gAt (c : Dev nD) (t : Fin cfg0.N) : Vec Ideal S1x3072 .f32 := iblk m c 1 t
def pAt (c : Dev nD) (t : Fin cfg0.N) : Vec Ideal S6x2048 .i32 := iblk m c 2 t
def wAt (c : Dev nD) (t : Fin cfg0.N) : Vec Ideal S3072x2304 .fp8e4m3 := iblk m c 3 t
def sAt (c : Dev nD) (t : Fin cfg0.N) : Vec Ideal S1x2304 .f32 := iblk m c 4 t
def fAt (c : Dev nD) (t : Fin cfg0.N) : Vec Ideal S48x512 .f32 := iblk m c 5 t

/-- The first grid point, and the one before. -/
def first : Fin cfg0.N := ⟨0, lt_of_lt_of_eq (by decide) N_0.symm⟩
def prev (t : Fin cfg0.N) : Fin cfg0.N := ⟨t.val - 1, Nat.lt_of_le_of_lt (Nat.sub_le _ _) t.isLt⟩

/-- The codes and the scales of the tile of a point. -/
def codesOf (c : Dev nD) (t : Fin cfg0.N) : Vec Ideal S512x3072 .fp8e4m3 := codeTile (xAt m c t) (gAt m c t)
def scalesOf (c : Dev nD) (t : Fin cfg0.N) (r : Fin 512) : EReal := scaleRowOf (xAt m c t) (gAt m c t) r

theorem tile_lt (t : Fin cfg0.N) : (t.val - 1) / 4 < 6 := by
  have := lt_of_lt_of_eq t.isLt N_0
  omega

/-- The positions and the frequencies a point reads. -/
def posOf (c : Dev nD) (t : Fin cfg0.N) (j : Fin 512) : BitVec 32 :=
  pAt m c t (ix2 (⟨(t.val - 1) / 4, tile_lt t⟩ : Fin 6) (⟨512 * ((t.val - 1) % 4) + j.val, by omega⟩ : Fin 2048))
def freqOf (c : Dev nD) (t : Fin cfg0.N) (d : Fin 48) (j : Fin 512) : EReal := fAt m c t (ix2 d j)

/-- The rotated heads and the plain ones of the tile before a point. -/
def rotOf (c : Dev nD) (t : Fin cfg0.N) (c0 : ℕ) : Vec Ideal S1x8x12x8x512 .bf16 :=
  rotOut (wAt m c first) (sAt m c first) (fun r k => codesOf m c (prev t) (ix2 r k)) (scalesOf m c (prev t)) (posOf m c t) (freqOf m c t) c0
def plainOf (c : Dev nD) (t : Fin cfg0.N) : Vec Ideal S1x8x12x8x512 .bf16 :=
  plainOut (wAt m c first) (sAt m c first) (fun r k => codesOf m c (prev t) (ix2 r k)) (scalesOf m c (prev t)) 4

/-! ## The invariant -/

/-- After point `n`: the weights transposed, their scales broadcast, the tile's codes in its slot and its scales in the row; before the
    first point, anything. -/
def PhiS (c : Dev nD) : (n : ℕ) → n ≤ cfg0.N → sProp 𝕄
  | 0, _ => Pipeline.ΦA spec0 c
  | n + 1, hn => iprop(iprop(owns (c : Thread nD τ) scM0_0 fullShare (wtTile (wAt m c first)) ∗ owns (c : Thread nD τ) scM0_1 fullShare (wsbTile (sAt m c first))
      ∗ (∃ d, owns (c : Thread nD τ) scM0_2 fullShare d)
      ∗ (∃ d, ⌜∀ j : S2x512x3072.Idx, (j 0).val = n % 2 → d j = slotTile (codesOf m c ⟨n, hn⟩) j⌝ ∗ owns (c : Thread nD τ) scM0_3 fullShare d)
      ∗ owns (c : Thread nD τ) scM0_4 fullShare (fun j => scalesOf m c ⟨n, hn⟩ (j 1))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns (c : Thread nD τ) scM0_0 fullShare (wtTile (wAt m c first)) ∗ owns (c : Thread nD τ) scM0_1 fullShare (wsbTile (sAt m c first))
      ∗ (∃ d, owns (c : Thread nD τ) scM0_2 fullShare d)
      ∗ (∃ d, ⌜∀ j : S2x512x3072.Idx, (j 0).val = t.val % 2 → d j = slotTile (codesOf m c t) j⌝ ∗ owns (c : Thread nD τ) scM0_3 fullShare d)
      ∗ owns (c : Thread nD τ) scM0_4 fullShare (fun j => scalesOf m c t (j 1))) ∗ (∃ r, prngReg c r)) := rfl

theorem PhiS_pos (c : Dev nD) (t : Fin cfg0.N) (hz : t.val ≠ 0) (h : t.val ≤ cfg0.N) :
    PhiS m c t.val h = iprop(iprop(owns (c : Thread nD τ) scM0_0 fullShare (wtTile (wAt m c first)) ∗ owns (c : Thread nD τ) scM0_1 fullShare (wsbTile (sAt m c first))
      ∗ (∃ d, owns (c : Thread nD τ) scM0_2 fullShare d)
      ∗ (∃ d, ⌜∀ j : S2x512x3072.Idx, (j 0).val = (t.val - 1) % 2 → d j = slotTile (codesOf m c (prev t)) j⌝ ∗ owns (c : Thread nD τ) scM0_3 fullShare d)
      ∗ owns (c : Thread nD τ) scM0_4 fullShare (fun j => scalesOf m c (prev t) (j 1))) ∗ (∃ r, prngReg c r)) := by
  obtain ⟨n, hn⟩ := t
  cases n with
  | zero => exact absurd rfl hz
  | succ n => rfl

/-- The proof data of the pipeline. -/
def dats (_ : Fin 1) (c : Dev nD) : Dat τ (Elt Ideal) Unit ℕ (UR sig nD τ) ℕ cfg0 c where
  A w := V m c (Pipeline.arrRef spec0 w)
  after w t := match w with
    | ⟨0, _⟩ => xAt m c t
    | ⟨1, _⟩ => gAt m c t
    | ⟨2, _⟩ => pAt m c t
    | ⟨3, _⟩ => wAt m c t
    | ⟨4, _⟩ => sAt m c t
    | ⟨5, _⟩ => fAt m c t
    | ⟨6, _⟩ => rotOf m c t 0
    | ⟨7, _⟩ => rotOf m c t 2
    | ⟨8, _⟩ => plainOf m c t
    | ⟨9, _⟩ => codesOf m c t
    | ⟨10, _⟩ => fun j => scalesOf m c t (j 2)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = xAt m c t := by dsimp only [dats]
theorem after0_1 (c : Dev nD) (t : Fin cfg0.N) : (dats m 0 c).after 1 t = gAt m c t := by dsimp only [dats]
theorem after0_2 (c : Dev nD) (t : Fin cfg0.N) : (dats m 0 c).after 2 t = pAt m c t := by dsimp only [dats]
theorem after0_3 (c : Dev nD) (t : Fin cfg0.N) : (dats m 0 c).after 3 t = wAt m c t := by dsimp only [dats]
theorem after0_4 (c : Dev nD) (t : Fin cfg0.N) : (dats m 0 c).after 4 t = sAt m c t := by dsimp only [dats]
theorem after0_5 (c : Dev nD) (t : Fin cfg0.N) : (dats m 0 c).after 5 t = fAt m c t := by dsimp only [dats]
theorem after0_6 (c : Dev nD) (t : Fin cfg0.N) : (dats m 0 c).after 6 t = rotOf m c t 0 := by dsimp only [dats]
theorem after0_7 (c : Dev nD) (t : Fin cfg0.N) : (dats m 0 c).after 7 t = rotOf m c t 2 := by dsimp only [dats]
theorem after0_8 (c : Dev nD) (t : Fin cfg0.N) : (dats m 0 c).after 8 t = plainOf m c t := by dsimp only [dats]
theorem after0_9 (c : Dev nD) (t : Fin cfg0.N) : (dats m 0 c).after 9 t = codesOf m c t := by dsimp only [dats]
theorem after0_10 (c : Dev nD) (t : Fin cfg0.N) : (dats m 0 c).after 10 t = fun j => scalesOf m c t (j 2) := by dsimp only [dats]

theorem before0_0 (c : Dev nD) (t : Fin cfg0.N) (d) : (dats m 0 c).before 0 t d = xAt m c t := before0_0_of m (dats m 0 c) (A_eq m c 0) (after0_0 m c) t d
theorem before0_1 (c : Dev nD) (t : Fin cfg0.N) (d) : (dats m 0 c).before 1 t d = gAt m c t := before0_1_of m (dats m 0 c) (A_eq m c 1) (after0_1 m c) t d
theorem before0_2 (c : Dev nD) (t : Fin cfg0.N) (d) : (dats m 0 c).before 2 t d = pAt m c t := before0_2_of m (dats m 0 c) (A_eq m c 2) (after0_2 m c) t d
theorem before0_3 (c : Dev nD) (t : Fin cfg0.N) (d) : (dats m 0 c).before 3 t d = wAt m c t := before0_3_of m (dats m 0 c) (A_eq m c 3) (after0_3 m c) t d
theorem before0_4 (c : Dev nD) (t : Fin cfg0.N) (d) : (dats m 0 c).before 4 t d = sAt m c t := before0_4_of m (dats m 0 c) (A_eq m c 4) (after0_4 m c) t d
theorem before0_5 (c : Dev nD) (t : Fin cfg0.N) (d) : (dats m 0 c).before 5 t d = fAt m c t := before0_5_of m (dats m 0 c) (A_eq m c 5) (after0_5 m c) t d

/-! ## The body at a point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves0 (c : Dev nD) (t : Fin cfg0.N) :
    (dats m 0 c).leavesExact 0 t = owns (c : Thread nD τ) (ms0_0 t) fullShare (xAt m c t) := by
  unfold Dat.leavesExact; rw [live0 t, after0_0]
theorem leaves1 (c : Dev nD) (t : Fin cfg0.N) :
    (dats m 0 c).leavesExact 1 t = owns (c : Thread nD τ) (ms0_1 t) fullShare (gAt m c t) := by
  unfold Dat.leavesExact; rw [live1 t, after0_1]
theorem leaves2 (c : Dev nD) (t : Fin cfg0.N) :
    (dats m 0 c).leavesExact 2 t = owns (c : Thread nD τ) (ms0_2 t) fullShare (pAt m c t) := by
  unfold Dat.leavesExact; rw [live2 t, after0_2]
theorem leaves3 (c : Dev nD) (t : Fin cfg0.N) :
    (dats m 0 c).leavesExact 3 t = owns (c : Thread nD τ) (ms0_3 t) fullShare (wAt m c t) := by
  unfold Dat.leavesExact; rw [live3 t, after0_3]
theorem leaves4 (c : Dev nD) (t : Fin cfg0.N) :
    (dats m 0 c).leavesExact 4 t = owns (c : Thread nD τ) (ms0_4 t) fullShare (sAt m c t) := by
  unfold Dat.leavesExact; rw [live4 t, after0_4]
theorem leaves5 (c : Dev nD) (t : Fin cfg0.N) :
    (dats m 0 c).leavesExact 5 t = owns (c : Thread nD τ) (ms0_5 t) fullShare (fAt m c t) := by
  unfold Dat.leavesExact; rw [live5 t, after0_5]
theorem leaves9 (c : Dev nD) (t : Fin cfg0.N) :
    (dats m 0 c).leavesExact 9 t = owns (c : Thread nD τ) (ms0_9 t) fullShare (codesOf m c t) := by
  unfold Dat.leavesExact; rw [live9 t, after0_9]
theorem leaves10 (c : Dev nD) (t : Fin cfg0.N) :
    (dats m 0 c).leavesExact 10 t = owns (c : Thread nD τ) (ms0_10 t) fullShare (fun j => scalesOf m c t (j 2)) := by
  unfold Dat.leavesExact; rw [live10 t, after0_10]; rfl
theorem leaves6 (c : Dev nD) (t : Fin cfg0.N) (h : t.val ≠ 0) :
    (dats m 0 c).leavesExact 6 t = owns (c : Thread nD τ) (ms0_6 t) fullShare (rotOf m c t 0) := by
  unfold Dat.leavesExact; rw [live6 t h, after0_6]
theorem leaves7 (c : Dev nD) (t : Fin cfg0.N) (h : t.val ≠ 0) :
    (dats m 0 c).leavesExact 7 t = owns (c : Thread nD τ) (ms0_7 t) fullShare (rotOf m c t 2) := by
  unfold Dat.leavesExact; rw [live7 t h, after0_7]
theorem leaves8 (c : Dev nD) (t : Fin cfg0.N) (h : t.val ≠ 0) :
    (dats m 0 c).leavesExact 8 t = owns (c : Thread nD τ) (ms0_8 t) fullShare (plainOf m c t) := by
  unfold Dat.leavesExact; rw [live8 t h, after0_8]

set_option maxHeartbeats 3200000 in
/-- The body at the first point. -/
theorem sound_first (c : Dev nD) (t : Fin cfg0.N) (hz : t.val = 0) :
    bodyPre m c t ⊢ wp frame (wpE (defs₀ (F := Ideal)) Variants.none c none) Set.univ (bodyAt0 t) (fun _ => bodyPost m c t) := by
  have ht : t = first := Fin.ext hz
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves9, leaves10]
  rw [Dat.leavesExact_idle (dats m 0 c) 6 t (idle6 t hz) (noFlush6 t hz), Dat.leavesExact_idle (dats m 0 c) 7 t (idle7 t hz) (noFlush7 t hz),
    Dat.leavesExact_idle (dats m 0 c) 8 t (idle8 t hz) (noFlush8 t hz)]
  rw [PhiS_castSucc m c t, PhiS_zero m c _ _ hz, PhiA0_eq]
  iintro ⟨⟨⟨HS0, HS1, HS2, ⟨%ds3, HS3⟩, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runFirst (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((cond1_iff t).mpr hz) (fun h => (cond2_iff t).mp h hz) (xAt m c t) (gAt m c t) (pAt m c t) (wAt m c t) (sAt m c t) (fAt m c t) ((dats m 0 c).before 6 t d6) ((dats m 0 c).before 7 t d7) ((dats m 0 c).before 8 t d8) ds3).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, ⟨%e9, H9⟩, ⟨%e10, H10⟩, ⟨%es0, HS0⟩, ⟨%es1, HS1⟩, ⟨%es2, HS2⟩, HS3, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; rw [← ht]; exact first_read_wt _
      isplitl [HS1]
      · unfold owns; iexists _; isplitr
        swap; · iexact HS1
        ipureintro; rw [← ht]; exact first_read_wsb _
      isplitl [HS2]
      · iexists _; unfold owns; iexists _; isplitr
        swap; · iexact HS2
        ipureintro; rfl
      isplitl [HS3]
      · iexists _; isplitr
        swap
        · unfold owns; iexists _; isplitr
          swap; · iexact HS3
          ipureintro; rfl
        ipureintro
        exact fun j hj => first_read_slot _ j (hj.trans (by rw [coord_val]))
      unfold owns; iexists _; isplitr
      swap; · iexact HS4
      ipureintro; exact first_read_scale _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]
  · unfold owns; iexists _; isplitr
    swap; · iexact H9
    ipureintro; exact first_read_codes _
  unfold owns; iexists _; isplitr
  swap; · iexact H10
  ipureintro; exact first_read_scaleOut _

set_option maxHeartbeats 3200000 in
/-- The body at a later point. -/
theorem sound_later (c : Dev nD) (t : Fin cfg0.N) (hz : t.val ≠ 0) :
    bodyPre m c t ⊢ wp frame (wpE (defs₀ (F := Ideal)) Variants.none c none) Set.univ (bodyAt0 t) (fun _ => bodyPost m c t) := by
  have ho99 : k0_off99 (grid0.coords t) = ![(⟨(t.val - 1) % 2, Nat.mod_lt _ (by decide)⟩ : Fin 2).val, 0, 0] := off99_eq t hz
  have ho98 : k0_off98 (grid0.coords t) = ![(⟨(t.val - 1) / 4, tile_lt t⟩ : Fin 6).val, 512 * ((t.val - 1) % 4)] := off98_eq t hz
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6 m c t hz, leaves7 m c t hz, leaves8 m c t hz, leaves9, leaves10]
  rw [PhiS_castSucc m c t, PhiS_pos m c t hz]
  iintro ⟨⟨⟨HS0, HS1, HS2, ⟨%ds3, %hds3, HS3⟩, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hC : ∀ (r : Fin 512) (k : Fin 3072), ds3 (ix3 (⟨(t.val - 1) % 2, Nat.mod_lt _ (by decide)⟩ : Fin 2) r k) = (fun r k => codesOf m c (prev t) (ix2 r k)) r k :=
    fun r k => hds3 _ rfl
  iapply ((runLater (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => hz ((cond1_iff t).mp h)) ((cond2_iff t).mpr hz) (xAt m c t) (gAt m c t) (pAt m c t) (wAt m c t) (sAt m c t) (fAt m c t) (wtTile (wAt m c first)) (wsbTile (sAt m c first)) ds3 (fun j => scalesOf m c (prev t) (j 1))).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, H6⟩, ⟨%e7, H7⟩, ⟨%e8, H8⟩, ⟨%e9, H9⟩, ⟨%e10, H10⟩, HS0, HS1, ⟨%es2, HS2⟩, HS3, HS4⟩
  isplitl [HS0 HS1 HS2 HS3 HS4 Hg]
  · isplitl [HS0 HS1 HS2 HS3 HS4]
    · isplitl [HS0]; · iexact HS0
      isplitl [HS1]; · iexact HS1
      isplitl [HS2]
      · iexists _; unfold owns; iexists _; isplitr
        swap; · iexact HS2
        ipureintro; rfl
      isplitl [HS3]
      · iexists _; isplitr
        swap
        · unfold owns; iexists _; isplitr
          swap; · iexact HS3
          ipureintro; rfl
        ipureintro
        exact fun j hj => later_read_slot _ j (hj.trans (by rw [coord_val]))
      unfold owns; iexists _; isplitr
      swap; · iexact HS4
      ipureintro; exact later_read_scale _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact later_read_q _ rfl _ rfl _ _ ho99 hC _ (fun _ => rfl) _ _ (Nat.mod_lt _ (by decide)) ho98 _
  isplitl [H7]
  · unfold owns; iexists _; isplitr
    swap; · iexact H7
    ipureintro; exact later_read_k _ rfl _ rfl _ _ ho99 hC _ (fun _ => rfl) _ _ (Nat.mod_lt _ (by decide)) ho98 _
  isplitl [H8]
  · unfold owns; iexists _; isplitr
    swap; · iexact H8
    ipureintro; exact later_read_v _ rfl _ rfl _ _ ho99 hC _ (fun _ => rfl) _
  isplitl [H9]
  · unfold owns; iexists _; isplitr
    swap; · iexact H9
    ipureintro; exact later_read_codes _
  unfold owns; iexists _; isplitr
  swap; · iexact H10
  ipureintro; exact later_read_scaleOut _

theorem sound_body (c : Dev nD) (t : Fin cfg0.N) :
    bodyPre m c t ⊢ wp frame (wpE (defs₀ (F := Ideal)) Variants.none c none) Set.univ (bodyAt0 t) (fun _ => bodyPost m c t) := by
  by_cases hz : t.val = 0
  · exact sound_first m c t hz
  · exact sound_later m c t hz

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c ((⟨24, lt_of_lt_of_eq (by decide) N_0.symm⟩ : Fin cfg0.N).val + 1) (le_of_eq N_0.symm) from rfl, PhiS_succ, PhiA0_eq]
  iintro ⟨⟨HS0, HS1, HS2, ⟨%d, -, HS3⟩, HS4⟩, Hg⟩
  isplitl [HS0 HS1 HS2 HS3 HS4]
  · isplitl [HS0]; · iexists _; iexact HS0
    isplitl [HS1]; · iexists _; iexact HS1
    isplitl [HS2]; · iexact HS2
    isplitl [HS3]; · iexists _; iexact HS3
    iexists _; iexact HS4
  iexact Hg

set_option backward.isDefEq.respectTransparency.types false in
set_option maxHeartbeats 800000 in
/-- Every run ends with the arrays at what the points leave, the later host lines run over them, and every counter at zero. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged and every counter at zero. -/
theorem frame_zero : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Body

end
-- ==== Proof.Entry.lean ====
/-
The arrays the kernel's region finds, in terms of the arguments.
-/
module

public import proofs.«01_k».proof.Proof.Region
public import Idealize.ShloMosaic.Lib.StableHlo.Run
public import Idealize.ShloMosaic.Lib.StableHlo.RunClose

@[expose] public section

set_option maxRecDepth 8192

noncomputable section

namespace Cert.KernelIdeal.Body

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ) (c : Dev nD)

/-- The frequencies, as the host computes them. -/
def freqs : FVec Ideal S48 .f32 :=
  Host.powf (broadcastInDim S48 ![] bcast_S_S48 (constant (F := Ideal) S_ .f32 0x461C4000#32))
    (Host.negf (Host.divf (addf (broadcastInDim S48 ![] bcast_S_S48 (constant (F := Ideal) S_ .f32 0x00000000#32))
        (mulf (broadcastInDim S48 ![] bcast_S_S48 (constant (F := Ideal) S_ .f32 0x40000000#32)) (sitofp .f32 (iotaInDim S48 32 0))))
      (broadcastInDim S48 ![] bcast_S_S48 (constant (F := Ideal) S_ .f32 0x42C00000#32))))

set_option maxHeartbeats 2000000 in
theorem V_main_v12 : V m c main_v12 = shapeCast S12288x3072 (m ((c.tc : Thread nD τ).loc main_arg0)) shapeCasts_S6x2048x3072_S12288x3072 := by
  dsimp only [V, V0, List.flatten_cons, List.flatten_nil, List.append_nil]
  unfold hostOps0
  after_results_simp
  rfl

set_option maxHeartbeats 2000000 in
theorem V_main_v13 : V m c main_v13 = shapeCast S1x3072 (m ((c.tc : Thread nD τ).loc main_arg1)) shapeCasts_S3072_S1x3072 := by
  dsimp only [V, V0, List.flatten_cons, List.flatten_nil, List.append_nil]
  unfold hostOps0
  after_results_simp
  rfl

set_option maxHeartbeats 2000000 in
theorem V_main_v14 : V m c main_v14 = shapeCast S1x2304 (m ((c.tc : Thread nD τ).loc main_arg4)) shapeCasts_S2304_S1x2304 := by
  dsimp only [V, V0, List.flatten_cons, List.flatten_nil, List.append_nil]
  unfold hostOps0
  after_results_simp
  rfl

set_option maxHeartbeats 2000000 in
theorem V_main_v11 : V m c main_v11 = broadcastInDim S48x512 ![0, 1] bcast_S48x1_S48x512_0_1 (broadcastInDim S48x1 ![0] bcast_S48_S48x1_0 freqs) := by
  dsimp only [V, V0, List.flatten_cons, List.flatten_nil, List.append_nil]
  unfold hostOps0
  after_results_simp
  rfl

/-! ## The blocks -/

theorem index0 : ∀ t : Fin cfg0.N, (cfg0.win 0).index t = ![min t.val 23, 0] :=
  (by decide +kernel : ∀ t : Fin cfg0.N, (cfg0.win 0).index t = ![min t.val 23, 0])

theorem xAt_apply (t : Fin cfg0.N) (r : Fin 512) (k : Fin 3072) :
    xAt m c t (ix2 r k) = V m c main_v12 (ix2 (⟨512 * min t.val 23 + r.val, by omega⟩ : Fin 12288) k) := by
  refine congrArg (V m c main_v12) (funext fun d => Fin.ext ?_)
  refine (Pipeline.Window.rect_emb_val (cfg0.win 0) t (ix2 r k) d).trans ?_
  rw [index0]
  match d with
  | ⟨0, _⟩ => exact congrArg (· + r.val) (Nat.mul_comm _ 512)
  | ⟨1, _⟩ => exact Nat.zero_add _ |>.symm ▸ rfl

theorem gAt_apply (t : Fin cfg0.N) : gAt m c t = V m c main_v13 := by
  funext j
  refine congrArg (V m c main_v13) (funext fun d => Fin.ext ?_)
  exact Pipeline.Window.rect_emb_val_of_index_zero (cfg0.win 1) t d (by match d with | ⟨0, _⟩ => rfl | ⟨1, _⟩ => rfl) j

theorem pAt_apply (t : Fin cfg0.N) : pAt m c t = V m c main_arg2 := by
  funext j
  refine congrArg (V m c main_arg2) (funext fun d => Fin.ext ?_)
  exact Pipeline.Window.rect_emb_val_of_index_zero (cfg0.win 2) t d (by match d with | ⟨0, _⟩ => rfl | ⟨1, _⟩ => rfl) j

theorem wAt_apply (t : Fin cfg0.N) : wAt m c t = V m c main_arg3 := by
  funext j
  refine congrArg (V m c main_arg3) (funext fun d => Fin.ext ?_)
  exact Pipeline.Window.rect_emb_val_of_index_zero (cfg0.win 3) t d (by match d with | ⟨0, _⟩ => rfl | ⟨1, _⟩ => rfl) j

theorem sAt_apply (t : Fin cfg0.N) : sAt m c t = V m c main_v14 := by
  funext j
  refine congrArg (V m c main_v14) (funext fun d => Fin.ext ?_)
  exact Pipeline.Window.rect_emb_val_of_index_zero (cfg0.win 4) t d (by match d with | ⟨0, _⟩ => rfl | ⟨1, _⟩ => rfl) j

theorem fAt_apply (t : Fin cfg0.N) : fAt m c t = V m c main_v11 := by
  funext j
  refine congrArg (V m c main_v11) (funext fun d => Fin.ext ?_)
  exact Pipeline.Window.rect_emb_val_of_index_zero (cfg0.win 5) t d (by match d with | ⟨0, _⟩ => rfl | ⟨1, _⟩ => rfl) j

end Cert.KernelIdeal.Body

end
-- ==== Proof.Whole.lean ====
/-
The five results as functions of the five arguments, over the extended reals: the codes and the scales of every row, and the heads
of the product with the weights, rotated and plain.
-/
module

public import proofs.«01_k».proof.Proof.Entry

@[expose] public section

set_option maxRecDepth 4096

noncomputable section

namespace Cert.KernelIdeal.Body

open Idealize.ShloMosaic Idealize.ShloMosaic.TcCoe Idealize.ShloMosaic.ValueIdx
open Cert.KernelIdeal Cert.KernelIdeal.Gen Cert.Scale

variable (x : Vec Ideal S6x2048x3072 .bf16) (g : Vec Ideal S3072 .f32) (p : Vec Ideal S6x2048 .i32)
  (w : Vec Ideal S3072x2304 .fp8e4m3) (ws : Vec Ideal S2304 .f32)

/-- A row of the activations. -/
def rowOf (b : Fin 6) (s : Fin 2048) : Fin 3072 → EReal := fun k => x (ix3 b s k)

/-- The gains. -/
def gains : Fin 3072 → EReal := fun k => g (ix1 k)

/-- The weights' scales, as a row. -/
def scaleRow2 : Vec Ideal S1x2304 .f32 := fun j => ws (ix1 (j 1))

/-- A row's scale. -/
def scaleAt (b : Fin 6) (s : Fin 2048) : EReal := scaleS (rowOver (rowOf x b s) (gains g))

/-- The codes. -/
def wholeCodes : Vec Ideal S6x2048x3072 .fp8e4m3 := fun j => rowCode (rowOf x (j 0) (j 1)) (gains g) (j 2)

/-- The scales. -/
def wholeScales : Vec Ideal S6x2048x1 .f32 := fun j => scaleAt x g (j 0) (j 1)

/-- A row's product with the weights, by column. -/
def productAt (b : Fin 6) (s : Fin 2048) : ℕ → EReal := prodCol w (scaleRow2 ws) (rowCode (rowOf x b s) (gains g))

/-- One element of the rotated heads. -/
def rotAt (b : Fin 6) (s : Fin 2048) (H d : ℕ) : EReal :=
  rotVal (productAt x g w ws b s) (fun e => (FloatOps.cos (angle (p (ix2 b s)) (freqs (ix1 e))) : Ideal .f32) * scaleAt x g b s)
    (fun e => (FloatOps.sin (angle (p (ix2 b s)) (freqs (ix1 e))) : Ideal .f32) * scaleAt x g b s) H d

/-- The rotated heads, from head `4 * c0` on. -/
def wholeRot (c0 : ℕ) : Vec Ideal S6x2048x8x96 .bf16 := fun j => rotAt x g p w ws (j 0) (j 1) (4 * c0 + (j 2).val) (j 3).val

/-- One element of the heads without rotation. -/
def plainAt (b : Fin 6) (s : Fin 2048) (H d : ℕ) : EReal := productAt x g w ws b s (96 * H + d) * scaleAt x g b s

/-- The heads without rotation, from head `4 * c0` on. -/
def wholePlain (c0 : ℕ) : Vec Ideal S6x2048x8x96 .bf16 := fun j => plainAt x g w ws (j 0) (j 1) (4 * c0 + (j 2).val) (j 3).val

end Cert.KernelIdeal.Body

end
-- ==== Proof.Arrays.lean ====
/-
The arrays the kernel's region leaves, as functions of the arguments.
-/
module

public import proofs.«01_k».proof.Proof.Whole
public import Idealize.ShloMosaic.Lib.Pipeline.ValueKit.Geometry

@[expose] public section

set_option maxRecDepth 4096

noncomputable section

namespace Cert.KernelIdeal.Body

open Idealize.ShloMosaic Idealize.ShloMosaic.TcCoe Idealize.ShloMosaic.ValueIdx Idealize.ShloMosaic.Pipeline
open Cert.KernelIdeal Cert.KernelIdeal.Gen Cert.Scale

variable (m : (ℓ : Loc nD τ sig) → Buf (Elt Ideal) ℓ) (c : Dev nD)

/-! ## The arguments -/

def xA : Vec Ideal S6x2048x3072 .bf16 := m ((c.tc : Thread nD τ).loc main_arg0)
def gA : Vec Ideal S3072 .f32 := m ((c.tc : Thread nD τ).loc main_arg1)
def pA : Vec Ideal S6x2048 .i32 := m ((c.tc : Thread nD τ).loc main_arg2)
def wA : Vec Ideal S3072x2304 .fp8e4m3 := m ((c.tc : Thread nD τ).loc main_arg3)
def sA : Vec Ideal S2304 .f32 := m ((c.tc : Thread nD τ).loc main_arg4)

/-! ## What a point reads -/

theorem tileRow_xAt (t : Fin cfg0.N) (r : Fin 512) (b : Fin 6) (s : Fin 2048) (h : 2048 * b.val + s.val = 512 * min t.val 23 + r.val) :
    tileRow (xAt m c t) r = rowOf (xA m c) b s := by
  funext k
  refine (xAt_apply m c t r k).trans ?_
  rw [V_main_v12]
  refine shapeCast_apply _ _ _ (ix3 b s k) ?_
  rw [Shape.rowMajor_val_three, Shape.rowMajor_val_two]
  show (b.val * 2048 + s.val) * 3072 + k.val = (512 * min t.val 23 + r.val) * 3072 + k.val
  omega

theorem gainRow_gAt (t : Fin cfg0.N) : gainRow (gAt m c t) = gains (gA m c) := by
  funext k
  unfold gainRow
  rw [gAt_apply, V_main_v13]
  refine shapeCast_apply _ _ _ (ix1 k) ?_
  rw [Shape.rowMajor_val_two, Shape.rowMajor_val_one]
  show k.val = 0 * 3072 + k.val
  omega

theorem sAt_eq (t : Fin cfg0.N) : sAt m c t = scaleRow2 (sA m c) := by
  rw [sAt_apply, V_main_v14]
  funext j
  refine shapeCast_apply _ _ _ (ix1 (j 1)) ?_
  rw [Shape.rowMajor_val_two, Shape.rowMajor_val_one]
  have : (j 0).val < 1 := (j 0).isLt
  show (j 1).val = (j 0).val * 2304 + (j 1).val
  omega

theorem wAt_eq (t : Fin cfg0.N) : wAt m c t = wA m c := (wAt_apply m c t).trans (V_main_arg3 m c)

theorem posOf_eq (t : Fin cfg0.N) (j : Fin 512) (b : Fin 6) (s : Fin 2048) (hb : b.val = (t.val - 1) / 4)
    (hs : s.val = 512 * ((t.val - 1) % 4) + j.val) : posOf m c t j = pA m c (ix2 b s) := by
  unfold posOf
  rw [pAt_apply, V_main_arg2]
  exact congrArg (pA m c) (congrArg₂ ix2 (Fin.ext hb.symm) (Fin.ext hs.symm))

theorem freqOf_eq (t : Fin cfg0.N) (d : Fin 48) (j : Fin 512) : freqOf m c t d j = freqs (ix1 d) := by
  unfold freqOf
  rw [fAt_apply, V_main_v11]
  refine (broadcastInDim_apply _ _ _ _ (ix2 d (0 : Fin 1)) fun a => ?_).trans (broadcastInDim_apply _ _ _ _ (ix1 d) fun a => ?_)
  · match a with
    | ⟨0, _⟩ => rfl
    | ⟨1, _⟩ => rfl
  · match a with
    | ⟨0, _⟩ => rfl

theorem codesOf_eq (t : Fin cfg0.N) (r : Fin 512) (k : Fin 3072) (b : Fin 6) (s : Fin 2048)
    (h : 2048 * b.val + s.val = 512 * min t.val 23 + r.val) : codesOf m c t (ix2 r k) = rowCode (rowOf (xA m c) b s) (gains (gA m c)) k := by
  show rowCode (tileRow (xAt m c t) r) (gainRow (gAt m c t)) k = _
  rw [tileRow_xAt m c t r b s h, gainRow_gAt]

theorem scalesOf_eq (t : Fin cfg0.N) (r : Fin 512) (b : Fin 6) (s : Fin 2048)
    (h : 2048 * b.val + s.val = 512 * min t.val 23 + r.val) : scalesOf m c t r = scaleAt (xA m c) (gA m c) b s := by
  unfold scalesOf scaleRowOf scaleAt
  rw [tileRow_xAt m c t r b s h, gainRow_gAt]

/-- The token a point's block of heads holds. -/
theorem token_lt (t : Fin cfg0.N) (r : Fin 512) (b : Fin 6) (s : Fin 2048) (hb : b.val = (t.val - 1) / 4)
    (hs : s.val = 512 * ((t.val - 1) % 4) + r.val) : 2048 * b.val + s.val = 512 * min (prev t).val 23 + r.val := by
  have := lt_of_lt_of_eq t.isLt N_0
  show _ = 512 * min (t.val - 1) 23 + r.val
  omega

theorem rotVal_congr {P P' : ℕ → EReal} {cs cs' sn sn' : Fin 48 → EReal} (hP : P = P') (hc : ∀ e, cs e = cs' e) (hs : ∀ e, sn e = sn' e)
    (H d : ℕ) : rotVal P cs sn H d = rotVal P' cs' sn' H d := by
  rw [hP, funext hc, funext hs]

theorem rotOf_eq (t : Fin cfg0.N) (c0 : ℕ) (y : S1x8x12x8x512.Idx) (b : Fin 6) (s : Fin 2048) (hb : b.val = (t.val - 1) / 4)
    (hs : s.val = 512 * ((t.val - 1) % 4) + (y 4).val) :
    rotOf m c t c0 y = rotAt (xA m c) (gA m c) (pA m c) (wA m c) (sA m c) b s (4 * c0 + (y 1).val) (8 * (y 2).val + (y 3).val) := by
  have hk := token_lt t (y 4) b s hb hs
  have hC : (fun k => codesOf m c (prev t) (ix2 (y 4) k)) = rowCode (rowOf (xA m c) b s) (gains (gA m c)) :=
    funext fun k => codesOf_eq m c (prev t) (y 4) k b s hk
  have hP : prodCol (wAt m c first) (sAt m c first) (fun k => codesOf m c (prev t) (ix2 (y 4) k)) = productAt (xA m c) (gA m c) (wA m c) (sA m c) b s := by
    rw [hC, wAt_eq, sAt_eq]; rfl
  have hA : ∀ e, angle (posOf m c t (y 4)) (freqOf m c t e (y 4)) = angle (pA m c (ix2 b s)) (freqs (ix1 e)) := fun e =>
    congrArg₂ angle (posOf_eq m c t (y 4) b s hb hs) (freqOf_eq m c t e (y 4))
  have hX := scalesOf_eq m c (prev t) (y 4) b s hk
  exact rotVal_congr hP (fun e => congrArg₂ (fun a X => (FloatOps.cos a : Ideal .f32) * X) (hA e) hX)
    (fun e => congrArg₂ (fun a X => (FloatOps.sin a : Ideal .f32) * X) (hA e) hX) _ _

theorem plainOf_eq (t : Fin cfg0.N) (y : S1x8x12x8x512.Idx) (b : Fin 6) (s : Fin 2048) (hb : b.val = (t.val - 1) / 4)
    (hs : s.val = 512 * ((t.val - 1) % 4) + (y 4).val) :
    plainOf m c t y = plainAt (xA m c) (gA m c) (wA m c) (sA m c) b s (4 * 4 + (y 1).val) (8 * (y 2).val + (y 3).val) := by
  have hk := token_lt t (y 4) b s hb hs
  have hC : (fun k => codesOf m c (prev t) (ix2 (y 4) k)) = rowCode (rowOf (xA m c) b s) (gains (gA m c)) :=
    funext fun k => codesOf_eq m c (prev t) (y 4) k b s hk
  unfold plainOf plainOut plainAt productAt
  dsimp only
  rw [hC, wAt_eq, sAt_eq, scalesOf_eq m c (prev t) (y 4) b s hk]

/-! ## The blocks' places -/

theorem index9 : ∀ t : Fin cfg0.N, (cfg0.win 9).index t = ![min t.val 23, 0] :=
  (by decide +kernel : ∀ t : Fin cfg0.N, (cfg0.win 9).index t = ![min t.val 23, 0])

theorem index10 : ∀ t : Fin cfg0.N, (cfg0.win 10).index t = ![min t.val 23 / 4, 0, min t.val 23 % 4] :=
  (by decide +kernel : ∀ t : Fin cfg0.N, (cfg0.win 10).index t = ![min t.val 23 / 4, 0, min t.val 23 % 4])

theorem index6 : ∀ t : Fin cfg0.N, (cfg0.win 6).index t = ![(t.val - 1) / 4, 0, 0, 0, (t.val - 1) % 4] :=
  (by decide +kernel : ∀ t : Fin cfg0.N, (cfg0.win 6).index t = ![(t.val - 1) / 4, 0, 0, 0, (t.val - 1) % 4])

theorem index7 : ∀ t : Fin cfg0.N, (cfg0.win 7).index t = ![(t.val - 1) / 4, 0, 0, 0, (t.val - 1) % 4] :=
  (by decide +kernel : ∀ t : Fin cfg0.N, (cfg0.win 7).index t = ![(t.val - 1) / 4, 0, 0, 0, (t.val - 1) % 4])

theorem index8 : ∀ t : Fin cfg0.N, (cfg0.win 8).index t = ![(t.val - 1) / 4, 0, 0, 0, (t.val - 1) % 4] :=
  (by decide +kernel : ∀ t : Fin cfg0.N, (cfg0.win 8).index t = ![(t.val - 1) / 4, 0, 0, 0, (t.val - 1) % 4])

/-! ## The arrays -/

/-- The codes, row by row. -/
def codesArr : Vec Ideal S12288x3072 .fp8e4m3 := fun i =>
  have h : (i 0).val < 12288 := (i 0).isLt
  rowCode (rowOf (xA m c) ⟨(i 0).val / 2048, by omega⟩ ⟨(i 0).val % 2048, by omega⟩) (gains (gA m c)) (i 1)

/-- The scales. -/
def scalesArr : Vec Ideal S6x1x2048 .f32 := fun i => scaleAt (xA m c) (gA m c) (i 0) (i 2)

/-- The rotated heads, the tokens last. -/
def rotArr (c0 : ℕ) : Vec Ideal S6x8x12x8x2048 .bf16 := fun i =>
  rotAt (xA m c) (gA m c) (pA m c) (wA m c) (sA m c) (i 0) (i 4) (4 * c0 + (i 1).val) (8 * (i 2).val + (i 3).val)

/-- The plain heads, the tokens last. -/
def plainArr : Vec Ideal S6x8x12x8x2048 .bf16 := fun i =>
  plainAt (xA m c) (gA m c) (wA m c) (sA m c) (i 0) (i 4) (4 * 4 + (i 1).val) (8 * (i 2).val + (i 3).val)

theorem codes_at (t : Fin cfg0.N) (j : S512x3072.Idx) (i : S12288x3072.Idx) (h0 : (i 0).val = min t.val 23 * 512 + (j 0).val)
    (h1 : (i 1).val = 0 * 3072 + (j 1).val) : codesOf m c t j = codesArr m c i := by
  have h : (i 0).val < 12288 := (i 0).isLt
  have e : j 1 = i 1 := Fin.ext (by omega)
  refine (congrArg (codesOf m c t) (eq_ix2 j)).trans ?_
  refine (codesOf_eq m c t (j 0) (j 1) ⟨(i 0).val / 2048, by omega⟩ ⟨(i 0).val % 2048, by omega⟩ ?_).trans (congrArg _ e)
  show 2048 * ((i 0).val / 2048) + (i 0).val % 2048 = 512 * min t.val 23 + (j 0).val
  omega

theorem scales_at (t : Fin cfg0.N) (j : S1x1x512.Idx) (i : S6x1x2048.Idx) (h0 : (i 0).val = min t.val 23 / 4 * 1 + (j 0).val)
    (h2 : (i 2).val = min t.val 23 % 4 * 512 + (j 2).val) : scalesOf m c t (j 2) = scalesArr m c i := by
  have h : (j 0).val < 1 := (j 0).isLt
  refine scalesOf_eq m c t (j 2) (i 0) (i 2) ?_
  show 2048 * (i 0).val + (i 2).val = 512 * min t.val 23 + (j 2).val
  omega

theorem rot_at (t : Fin cfg0.N) (c0 : ℕ) (j : S1x8x12x8x512.Idx) (i : S6x8x12x8x2048.Idx) (h0 : (i 0).val = (t.val - 1) / 4 * 1 + (j 0).val)
    (h1 : (i 1).val = 0 * 8 + (j 1).val) (h2 : (i 2).val = 0 * 12 + (j 2).val) (h3 : (i 3).val = 0 * 8 + (j 3).val)
    (h4 : (i 4).val = (t.val - 1) % 4 * 512 + (j 4).val) : rotOf m c t c0 j = rotArr m c c0 i := by
  have h : (j 0).val < 1 := (j 0).isLt
  refine (rotOf_eq m c t c0 j (i 0) (i 4) (show (i 0).val = _ by omega) (show (i 4).val = 512 * _ + _ by omega)).trans ?_
  exact congrArg₂ (rotAt _ _ _ _ _ (i 0) (i 4)) (by omega) (by omega)

theorem plain_at (t : Fin cfg0.N) (j : S1x8x12x8x512.Idx) (i : S6x8x12x8x2048.Idx) (h0 : (i 0).val = (t.val - 1) / 4 * 1 + (j 0).val)
    (h1 : (i 1).val = 0 * 8 + (j 1).val) (h2 : (i 2).val = 0 * 12 + (j 2).val) (h3 : (i 3).val = 0 * 8 + (j 3).val)
    (h4 : (i 4).val = (t.val - 1) % 4 * 512 + (j 4).val) : plainOf m c t j = plainArr m c i := by
  have h : (j 0).val < 1 := (j 0).isLt
  refine (plainOf_eq m c t j (i 0) (i 4) (show (i 0).val = _ by omega) (show (i 4).val = 512 * _ + _ by omega)).trans ?_
  exact congrArg₂ (plainAt _ _ _ _ (i 0) (i 4)) (by omega) (by omega)

/-- A coordinate of an element of a block, in its array: the block's index, the block's size, the coordinate in the block. -/
theorem place (w : Fin cfg0.W) (t : Fin cfg0.N) (y) (a) {k : ℕ} (hk : (cfg0.win w).index t a = k)
    (hb : (cfg0.win w).kind = WinKind.blocked := by decide) :
    ((((cfg0.win w).rect t).emb y) a : Nat) = k * (cfg0.win w).size a + (y a).val :=
  (Window.rect_emb_val (cfg0.win w) t y a hb).trans (by rw [hk])

theorem arr9 : (dats m 0 c).arrAt 9 cfg0.N = codesArr m c := by
  refine (dats m 0 c).arrAt_eq_of_covers 9 _ (by decide +kernel) fun t hf y => ?_
  rw [after0_9]
  exact (cast_eq _ _).trans (codes_at m c t _ _ (place 9 t y 0 (congrFun (index9 t) 0)) (place 9 t y 1 (congrFun (index9 t) 1)))

theorem arr10 : (dats m 0 c).arrAt 10 cfg0.N = scalesArr m c := by
  refine (dats m 0 c).arrAt_eq_of_covers 10 _ (by decide +kernel) fun t hf y => ?_
  rw [after0_10]
  exact (cast_eq _ _).trans (scales_at m c t _ _ (place 10 t y 0 (congrFun (index10 t) 0)) (place 10 t y 2 (congrFun (index10 t) 2)))

theorem arr6 : (dats m 0 c).arrAt 6 cfg0.N = rotArr m c 0 := by
  refine (dats m 0 c).arrAt_eq_of_covers 6 _ (by decide +kernel) fun t hf y => ?_
  rw [after0_6]
  exact (cast_eq _ _).trans (rot_at m c t 0 _ _ (place 6 t y 0 (congrFun (index6 t) 0)) (place 6 t y 1 (congrFun (index6 t) 1))
    (place 6 t y 2 (congrFun (index6 t) 2)) (place 6 t y 3 (congrFun (index6 t) 3)) (place 6 t y 4 (congrFun (index6 t) 4)))

theorem arr7 : (dats m 0 c).arrAt 7 cfg0.N = rotArr m c 2 := by
  refine (dats m 0 c).arrAt_eq_of_covers 7 _ (by decide +kernel) fun t hf y => ?_
  rw [after0_7]
  exact (cast_eq _ _).trans (rot_at m c t 2 _ _ (place 7 t y 0 (congrFun (index7 t) 0)) (place 7 t y 1 (congrFun (index7 t) 1))
    (place 7 t y 2 (congrFun (index7 t) 2)) (place 7 t y 3 (congrFun (index7 t) 3)) (place 7 t y 4 (congrFun (index7 t) 4)))

theorem arr8 : (dats m 0 c).arrAt 8 cfg0.N = plainArr m c := by
  refine (dats m 0 c).arrAt_eq_of_covers 8 _ (by decide +kernel) fun t hf y => ?_
  rw [after0_8]
  exact (cast_eq _ _).trans (plain_at m c t _ _ (place 8 t y 0 (congrFun (index8 t) 0)) (place 8 t y 1 (congrFun (index8 t) 1))
    (place 8 t y 2 (congrFun (index8 t) 2)) (place 8 t y 3 (congrFun (index8 t) 3)) (place 8 t y 4 (congrFun (index8 t) 4)))

end Cert.KernelIdeal.Body

end
-- ==== Proof.Results.lean ====
/-
The kernel's five results as functions of its arguments, and its run.
-/
module

public import proofs.«01_k».proof.Proof.Arrays
public import Idealize.ShloMosaic.Lib.Pipeline.FrameSuffix

@[expose] public section

set_option maxRecDepth 4096

noncomputable section

namespace Cert.KernelIdeal.Body

open Idealize.ShloMosaic Idealize.ShloMosaic.TcCoe Idealize.ShloMosaic.ValueIdx Idealize.ShloMosaic.StableHlo
open Cert.KernelIdeal Cert.KernelIdeal.Gen Cert.Scale

variable (m : (ℓ : Loc nD τ sig) → Buf (Elt Ideal) ℓ) (c : Dev nD)

/-- The contents when the region is left. -/
abbrev exitV : Valuation τ sig (Elt Ideal) :=
  Pipeline.withArrays spec0 c (V0 m c) fun w => (dats m 0 c).arrAt w cfg0.N

theorem exit_v15_0 : exitV m c (Proc.devRef .tc main_v15_0) = rotArr m c 0 :=
  (Pipeline.withArrays_arr spec0 launch0.win.arr_inj c (V0 m c) _ 6).trans (arr6 m c)
theorem exit_v15_1 : exitV m c (Proc.devRef .tc main_v15_1) = rotArr m c 2 :=
  (Pipeline.withArrays_arr spec0 launch0.win.arr_inj c (V0 m c) _ 7).trans (arr7 m c)
theorem exit_v15_2 : exitV m c (Proc.devRef .tc main_v15_2) = plainArr m c :=
  (Pipeline.withArrays_arr spec0 launch0.win.arr_inj c (V0 m c) _ 8).trans (arr8 m c)
theorem exit_v15_3 : exitV m c (Proc.devRef .tc main_v15_3) = codesArr m c :=
  (Pipeline.withArrays_arr spec0 launch0.win.arr_inj c (V0 m c) _ 9).trans (arr9 m c)
theorem exit_v15_4 : exitV m c (Proc.devRef .tc main_v15_4) = scalesArr m c :=
  (Pipeline.withArrays_arr spec0 launch0.win.arr_inj c (V0 m c) _ 10).trans (arr10 m c)

/-! ## The operations after the region -/

section Suffix

variable (W : Valuation τ sig (Elt Ideal))

theorem after_v17 : after hostOps1 W (Proc.devRef .tc main_v17)
    = transpose S6x2048x8x96 [0, 3, 1, 2] (shapeCast S6x8x96x2048 (W (Proc.devRef .tc main_v15_0)) shapeCasts_S6x8x12x8x2048_S6x8x96x2048) transposes_S6x8x96x2048_S6x2048x8x96_0_3_1_2 := by
  unfold hostOps1
  after_results_simp
  rfl

theorem after_v19 : after hostOps1 W (Proc.devRef .tc main_v19)
    = transpose S6x2048x8x96 [0, 3, 1, 2] (shapeCast S6x8x96x2048 (W (Proc.devRef .tc main_v15_1)) shapeCasts_S6x8x12x8x2048_S6x8x96x2048) transposes_S6x8x96x2048_S6x2048x8x96_0_3_1_2 := by
  unfold hostOps1
  after_results_simp
  rfl

theorem after_v21 : after hostOps1 W (Proc.devRef .tc main_v21)
    = transpose S6x2048x8x96 [0, 3, 1, 2] (shapeCast S6x8x96x2048 (W (Proc.devRef .tc main_v15_2)) shapeCasts_S6x8x12x8x2048_S6x8x96x2048) transposes_S6x8x96x2048_S6x2048x8x96_0_3_1_2 := by
  unfold hostOps1
  after_results_simp
  rfl

theorem after_v22 : after hostOps1 W (Proc.devRef .tc main_v22)
    = shapeCast S6x2048x3072 (W (Proc.devRef .tc main_v15_3)) shapeCasts_S12288x3072_S6x2048x3072 := by
  unfold hostOps1
  after_results_simp
  rfl

theorem after_v23 : after hostOps1 W (Proc.devRef .tc main_v23)
    = shapeCast S6x2048x1 (W (Proc.devRef .tc main_v15_4)) shapeCasts_S6x1x2048_S6x2048x1 := by
  unfold hostOps1
  after_results_simp
  rfl

end Suffix

/-- Heads stored tokens last, split in eights along the head, moved to tokens before heads. -/
theorem heads_apply (a : Vec Ideal S6x8x12x8x2048 .bf16) (j : S6x2048x8x96.Idx) :
    transpose S6x2048x8x96 [0, 3, 1, 2] (shapeCast S6x8x96x2048 a shapeCasts_S6x8x12x8x2048_S6x8x96x2048) transposes_S6x8x96x2048_S6x2048x8x96_0_3_1_2 j
      = a (ix5 (j 0 : Fin 6) (j 2 : Fin 8) (⟨(j 3).val / 8, by have : (j 3).val < 96 := (j 3).isLt; omega⟩ : Fin 12)
          (⟨(j 3).val % 8, by omega⟩ : Fin 8) (j 1 : Fin 2048)) := by
  refine (transpose_apply _ _ _ _ (ix4 (j 0 : Fin 6) (j 2 : Fin 8) (j 3 : Fin 96) (j 1 : Fin 2048)) fun b => ?_).trans (shapeCast_apply _ _ _ _ ?_)
  · match b with
    | ⟨0, _⟩ => rfl
    | ⟨1, _⟩ => rfl
    | ⟨2, _⟩ => rfl
    | ⟨3, _⟩ => rfl
  · refine (Shape.rowMajor_val_five _).trans (Eq.trans ?_ (Shape.rowMajor_val_four (d := ![6, 8, 96, 2048]) _).symm)
    show ((((j 0).val * 8 + (j 2).val) * 12 + (j 3).val / 8) * 8 + (j 3).val % 8) * 2048 + (j 1).val
      = (((j 0).val * 8 + (j 2).val) * 96 + (j 3).val) * 2048 + (j 1).val
    omega

theorem rot_value (c0 : ℕ) :
    transpose S6x2048x8x96 [0, 3, 1, 2] (shapeCast S6x8x96x2048 (rotArr m c c0) shapeCasts_S6x8x12x8x2048_S6x8x96x2048) transposes_S6x8x96x2048_S6x2048x8x96_0_3_1_2
      = wholeRot (xA m c) (gA m c) (pA m c) (wA m c) (sA m c) c0 := by
  funext j
  refine (heads_apply _ j).trans ?_
  exact congrArg (rotAt _ _ _ _ _ (j 0) (j 1) (4 * c0 + (j 2).val)) (Nat.div_add_mod (j 3).val 8)

theorem plain_value :
    transpose S6x2048x8x96 [0, 3, 1, 2] (shapeCast S6x8x96x2048 (plainArr m c) shapeCasts_S6x8x12x8x2048_S6x8x96x2048) transposes_S6x8x96x2048_S6x2048x8x96_0_3_1_2
      = wholePlain (xA m c) (gA m c) (wA m c) (sA m c) 4 := by
  funext j
  refine (heads_apply _ j).trans ?_
  exact congrArg (plainAt _ _ _ _ (j 0) (j 1) (4 * 4 + (j 2).val)) (Nat.div_add_mod (j 3).val 8)

theorem codes_value : shapeCast S6x2048x3072 (codesArr m c) shapeCasts_S12288x3072_S6x2048x3072 = wholeCodes (xA m c) (gA m c) := by
  funext j
  have h0 : (j 0).val < 6 := (j 0).isLt
  have h1 : (j 1).val < 2048 := (j 1).isLt
  refine (shapeCast_apply _ _ _ (ix2 (⟨2048 * (j 0).val + (j 1).val, by omega⟩ : Fin 12288) (j 2 : Fin 3072)) ?_).trans ?_
  · rw [Shape.rowMajor_val_two, Shape.rowMajor_val_three]
    show (2048 * (j 0).val + (j 1).val) * 3072 + (j 2).val = ((j 0).val * 2048 + (j 1).val) * 3072 + (j 2).val
    omega
  · exact congrArg (fun f => rowCode f (gains (gA m c)) (j 2)) (congrArg₂ (rowOf (xA m c))
      (Fin.ext (show (2048 * (j 0).val + (j 1).val) / 2048 = (j 0).val by omega))
      (Fin.ext (show (2048 * (j 0).val + (j 1).val) % 2048 = (j 1).val by omega)))

theorem scales_value : shapeCast S6x2048x1 (scalesArr m c) shapeCasts_S6x1x2048_S6x2048x1 = wholeScales (xA m c) (gA m c) := by
  funext j
  have h2 : (j 2).val < 1 := (j 2).isLt
  refine shapeCast_apply _ _ _ (ix3 (j 0 : Fin 6) (0 : Fin 1) (j 1 : Fin 2048)) ?_
  rw [Shape.rowMajor_val_three, Shape.rowMajor_val_three]
  show ((j 0).val * 1 + 0) * 2048 + (j 1).val = ((j 0).val * 2048 + (j 1).val) * 1 + (j 2).val
  omega

/-! ## The run -/

theorem fin_v17 : Pipeline.afterTail₀ cfgs (dats m) 0 (V0 m) [hostOps1] c main_v17 = wholeRot (xA m c) (gA m c) (pA m c) (wA m c) (sA m c) 0 := by
  refine (after_v17 (exitV m c)).trans ?_
  rw [exit_v15_0]
  exact rot_value m c 0

theorem fin_v19 : Pipeline.afterTail₀ cfgs (dats m) 0 (V0 m) [hostOps1] c main_v19 = wholeRot (xA m c) (gA m c) (pA m c) (wA m c) (sA m c) 2 := by
  refine (after_v19 (exitV m c)).trans ?_
  rw [exit_v15_1]
  exact rot_value m c 2

theorem fin_v21 : Pipeline.afterTail₀ cfgs (dats m) 0 (V0 m) [hostOps1] c main_v21 = wholePlain (xA m c) (gA m c) (wA m c) (sA m c) 4 := by
  refine (after_v21 (exitV m c)).trans ?_
  rw [exit_v15_2]
  exact plain_value m c

theorem fin_v22 : Pipeline.afterTail₀ cfgs (dats m) 0 (V0 m) [hostOps1] c main_v22 = wholeCodes (xA m c) (gA m c) := by
  refine (after_v22 (exitV m c)).trans ?_
  rw [exit_v15_3]
  exact codes_value m c

theorem fin_v23 : Pipeline.afterTail₀ cfgs (dats m) 0 (V0 m) [hostOps1] c main_v23 = wholeScales (xA m c) (gA m c) := by
  refine (after_v23 (exitV m c)).trans ?_
  rw [exit_v15_4]
  exact scales_value m c

theorem run_values (ρ : Dev nD → PrngReg) :
    θ_run defs (onTc (τ := τ) (main (F := Ideal))) ⟨m, fun _ => 0, ρ⟩ fun r => ∀ c : Dev nD,
      r.2.mem ((c.tc : Thread nD τ).loc main_v17) = wholeRot (xA m c) (gA m c) (pA m c) (wA m c) (sA m c) 0
      ∧ r.2.mem ((c.tc : Thread nD τ).loc main_v19) = wholeRot (xA m c) (gA m c) (pA m c) (wA m c) (sA m c) 2
      ∧ r.2.mem ((c.tc : Thread nD τ).loc main_v21) = wholePlain (xA m c) (gA m c) (wA m c) (sA m c) 4
      ∧ r.2.mem ((c.tc : Thread nD τ).loc main_v22) = wholeCodes (xA m c) (gA m c)
      ∧ r.2.mem ((c.tc : Thread nD τ).loc main_v23) = wholeScales (xA m c) (gA m c) :=
  (θ_run defs _ _).mono (fun _ h c => ⟨((h c).2 main_v17 (Pipeline.mem_restRefs_of main_v17 (by decide) (by decide))).trans (fin_v17 m c),
      ((h c).2 main_v19 (Pipeline.mem_restRefs_of main_v19 (by decide) (by decide))).trans (fin_v19 m c),
      ((h c).2 main_v21 (Pipeline.mem_restRefs_of main_v21 (by decide) (by decide))).trans (fin_v21 m c),
      ((h c).2 main_v22 (Pipeline.mem_restRefs_of main_v22 (by decide) (by decide))).trans (fin_v22 m c),
      ((h c).2 main_v23 (Pipeline.mem_restRefs_of main_v23 (by decide) (by decide))).trans (fin_v23 m c)⟩) (run_main m ρ)

end Cert.KernelIdeal.Body

end
-- ==== Proof.RefReduce.lean ====
/-
A host reduction over the last of three axes at one place, as a sum or a fold over that axis.
-/
module

public import Idealize.ShloMosaic.Lib.IdealHost
public import Idealize.ShloMosaic.PureOps.Reduce
import Idealize.ShloMosaic.Lib.Pointwise.Reduce

@[expose] public section

namespace Cert.LastAxis

open Idealize.ShloMosaic

variable {n0 n1 n2 : ℕ} {u : Shape}

theorem reduceAdd_apply {φ : FTy} (v : FVec Ideal ⟨3, ![n0, n1, n2]⟩ φ) (init : u.Idx → Ideal φ)
    (h : (⟨3, ![n0, n1, n2]⟩ : Shape).ReducesTo [2] ⟨2, ![n0, n1]⟩) (hu : 0 < u.numel) (a : Fin n0) (b : Fin n1) :
    (Host.reduceAdd v init h hu (ValueIdx.ix2 a b) : EReal)
      = init (Shape.Idx.first hu) + ∑ k : Fin n2, (v (ValueIdx.ix3 a b k) : EReal) :=
  (ValueIdx.hostReduceAdd_apply v init h hu (ValueIdx.ix2 a b)).trans
    ((Ideal.hostReduceAdd_r3_a2 h v (init (Shape.Idx.first hu)) (ValueIdx.ix2 a b)).trans
      (congrArg (_ + ·) (Finset.sum_congr rfl fun k _ => congrArg v (funext fun d => by
        match d with
        | ⟨0, _⟩ => rfl
        | ⟨1, _⟩ => rfl
        | ⟨2, _⟩ => rfl))))

theorem reduce_apply {α : Type} (f : α → α → α) [Std.Commutative f] [Std.Associative f] (v : (⟨3, ![n0, n1, n2]⟩ : Shape).Idx → α)
    (init : u.Idx → α) (h : (⟨3, ![n0, n1, n2]⟩ : Shape).ReducesTo [2] ⟨2, ![n0, n1]⟩) (hu : 0 < u.numel) (a : Fin n0) (b : Fin n1) :
    Host.reduce f v init h hu (ValueIdx.ix2 a b)
      = (Finset.univ : Finset (Fin n2)).fold f (init (Shape.Idx.first hu)) fun k => v (ValueIdx.ix3 a b k) :=
  (Host.reduce_eq_fold f v init h hu (ValueIdx.ix2 a b)).trans
    ((h.fold_fiber_r3_a2 (ValueIdx.ix2 a b) f (init (Shape.Idx.first hu)) v).trans
      (congrArg (Finset.fold f _ · _) (funext fun k => congrArg v (funext fun d => by
        match d with
        | ⟨0, _⟩ => rfl
        | ⟨1, _⟩ => rfl
        | ⟨2, _⟩ => rfl))))

theorem maximumf_apply {φ : FTy} (v : FVec Ideal ⟨3, ![n0, n1, n2]⟩ φ) (init : u.Idx → Ideal φ)
    (h : (⟨3, ![n0, n1, n2]⟩ : Shape).ReducesTo [2] ⟨2, ![n0, n1]⟩) (hu : 0 < u.numel) (a : Fin n0) (b : Fin n1) :
    (Host.reduce (FloatOps.maximumf (F := Ideal) (φ := φ)) v init h hu (ValueIdx.ix2 a b) : EReal)
      = (Finset.univ : Finset (Fin n2)).fold max (init (Shape.Idx.first hu) : EReal) fun k => (v (ValueIdx.ix3 a b k) : EReal) :=
  reduce_apply (fun p q : EReal => max p q) v init h hu a b

theorem minimumf_apply {φ : FTy} (v : FVec Ideal ⟨3, ![n0, n1, n2]⟩ φ) (init : u.Idx → Ideal φ)
    (h : (⟨3, ![n0, n1, n2]⟩ : Shape).ReducesTo [2] ⟨2, ![n0, n1]⟩) (hu : 0 < u.numel) (a : Fin n0) (b : Fin n1) :
    (Host.reduce (FloatOps.minimumf (F := Ideal) (φ := φ)) v init h hu (ValueIdx.ix2 a b) : EReal)
      = (Finset.univ : Finset (Fin n2)).fold min (init (Shape.Idx.first hu) : EReal) fun k => (v (ValueIdx.ix3 a b k) : EReal) :=
  reduce_apply (fun p q : EReal => min p q) v init h hu a b

theorem olt_apply {s : Shape} {φ : FTy} (v w : FVec Ideal s φ) (j : s.Idx) :
    cmpf .olt v w j = BitVec.ofBool (decide ((v j : EReal) < w j)) := rfl

theorem oge_apply {s : Shape} {φ : FTy} (v w : FVec Ideal s φ) (j : s.Idx) :
    cmpf .oge v w j = BitVec.ofBool (decide ((w j : EReal) ≤ v j)) := rfl

theorem ogt_apply {s : Shape} {φ : FTy} (v w : FVec Ideal s φ) (j : s.Idx) :
    cmpf .ogt v w j = BitVec.ofBool (decide ((w j : EReal) < v j)) := rfl

theorem andi_apply {s : Shape} (v w : IVec s 1) (j : s.Idx) : andi v w j = v j &&& w j := rfl

theorem fold_max_bot {n : ℕ} (f : Fin n → EReal) : Finset.univ.fold max ⊥ f = Finset.univ.sup f := rfl

theorem select_and {α : Type} (p q : Prop) [Decidable p] [Decidable q] (v w : α) :
    Scalar.select (BitVec.ofBool (decide p) &&& BitVec.ofBool (decide q)) v w = if p ∧ q then v else w := by
  by_cases hp : p <;> by_cases hq : q <;> simp [hp, hq, Scalar.select]

theorem select_if {α : Type} (p : Prop) [Decidable p] (v w : α) :
    Scalar.select (BitVec.ofBool (decide p)) v w = if p then v else w := by
  by_cases hp : p <;> simp [hp, Scalar.select]

end Cert.LastAxis
-- ==== Proof.RefEntry.lean ====
/-
The arrays the reference's region finds, in terms of the arguments: the rows normalised, and for each row the least power of two
above the row's greatest magnitude over the greatest code.
-/
module

public import proofs.«01_k».proof.Proof.Gen.ReferenceIdeal.Run
public import proofs.«01_k».proof.Proof.Whole
public import proofs.«01_k».proof.Proof.RefReduce

@[expose] public section

set_option maxRecDepth 8192

noncomputable section

namespace Cert.ReferenceIdeal.Body

open Idealize.ShloMosaic Idealize.ShloMosaic.TcCoe Idealize.ShloMosaic.ValueIdx Idealize.ShloMosaic.StableHlo
open Cert.ReferenceIdeal Cert.ReferenceIdeal.Gen Cert.Scale

section Terms

variable (x : FVec Ideal S6x2048x3072 .bf16) (g : FVec Ideal S3072 .f32)

/-- A row's reciprocal root mean square. -/
def rmsV : FVec Ideal S6x2048x1 .f32 :=
  Host.rsqrt (addf (Host.divf (broadcastInDim S6x2048x1 ![0, 1] bcast_S6x2048_S6x2048x1_0_1
      (Host.reduceAdd (mulf (extf .f32 x bitsLt_bf16_f32) (extf .f32 x bitsLt_bf16_f32)) (constant S_ .f32 0x00000000#32) reducesTo_S6x2048x3072_S6x2048_d2 h_S_))
    (broadcastInDim S6x2048x1 ![] bcast_S_S6x2048x1 (constant S_ .f32 0x45400000#32)))
    (broadcastInDim S6x2048x1 ![] bcast_S_S6x2048x1 (constant S_ .f32 0x358637BD#32)))

/-- The rows normalised. -/
def normV : FVec Ideal S6x2048x3072 .f32 :=
  mulf (mulf (extf .f32 x bitsLt_bf16_f32) (broadcastInDim S6x2048x3072 ![0, 1, 2] bcast_S6x2048x1_S6x2048x3072_0_1_2 (rmsV x)))
    (broadcastInDim S6x2048x3072 ![0, 1, 2] bcast_S1x1x3072_S6x2048x3072_0_1_2 (broadcastInDim S1x1x3072 ![2] bcast_S3072_S1x1x3072_2 g))

/-- A row's greatest magnitude over the greatest code. -/
def overV : FVec Ideal S6x2048x1 .f32 :=
  mulf (broadcastInDim S6x2048x1 ![0, 1] bcast_S6x2048_S6x2048x1_0_1
      (Host.reduce FloatOps.maximumf (Host.absf (normV x g)) (constant S_ .f32 0xFF800000#32) reducesTo_S6x2048x3072_S6x2048_d2 h_S_))
    (broadcastInDim S6x2048x1 ![] bcast_S_S6x2048x1 (constant S_ .f32 0x3B124925#32))

/-- The powers of two. -/
def powersV : FVec Ideal S254 .f32 :=
  Host.powf (broadcastInDim S254 ![] bcast_S_S254 (constant S_ .f32 0x40000000#32))
    (addf (broadcastInDim S254 ![] bcast_S_S254 (constant S_ .f32 0xC2FA0000#32)) (sitofp .f32 (iotaInDim S254 32 0)))

/-- Which powers are candidates. -/
def maskV : IVec S6x2048x254 1 :=
  andi (cmpf .olt (broadcastInDim S6x2048x254 ![0, 1, 2] bcast_S6x2048x1_S6x2048x254_0_1_2 (overV x g))
      (broadcastInDim S6x2048x254 ![0, 1, 2] bcast_S1x1x254_S6x2048x254_0_1_2 (broadcastInDim S1x1x254 ![2] bcast_S254_S1x1x254_2 powersV)))
    (broadcastInDim S6x2048x254 ![0, 1, 2] bcast_S6x2048x1_S6x2048x254_0_1_2
      (cmpf .oge (overV x g) (broadcastInDim S6x2048x1 ![] bcast_S_S6x2048x1 (constant (F := Ideal) S_ .f32 0x00800000#32))))

/-- The least candidate. -/
def leastV : FVec Ideal S6x2048 .f32 :=
  Host.reduce FloatOps.minimumf (select (maskV x g) (broadcastInDim S6x2048x254 ![2] bcast_S254_S6x2048x254_2 powersV)
    (broadcastInDim S6x2048x254 ![] bcast_S_S6x2048x254 (constant S_ .f32 0x7F800000#32))) (constant S_ .f32 0x7F800000#32)
    reducesTo_S6x2048x254_S6x2048_d2 h_S_

end Terms

variable (m : (ℓ : Loc nD τ sig) → Buf (Elt Ideal) ℓ) (c : Dev nD)

def xA : FVec Ideal S6x2048x3072 .bf16 := m ((c.tc : Thread nD τ).loc main_arg0)
def gA : FVec Ideal S3072 .f32 := m ((c.tc : Thread nD τ).loc main_arg1)

set_option maxHeartbeats 4000000 in
theorem V_main_v35 : V m c main_v35 = shapeCast S12288x3072 (normV (xA m c) (gA m c)) shapeCasts_S6x2048x3072_S12288x3072 := by
  dsimp only [V, V0, List.flatten_cons, List.flatten_nil, List.append_nil]
  unfold hostOps0 hostOps0_1 hostOps0_2
  simp only [List.cons_append, List.nil_append]
  after_results_simp
  rfl

set_option maxHeartbeats 4000000 in
theorem V_main_v36 : V m c main_v36 = shapeCast S12288x1 (broadcastInDim S6x2048x1 ![0, 1] bcast_S6x2048_S6x2048x1_0_1 (leastV (xA m c) (gA m c))) shapeCasts_S6x2048x1_S12288x1 := by
  dsimp only [V, V0, List.flatten_cons, List.flatten_nil, List.append_nil]
  unfold hostOps0 hostOps0_1 hostOps0_2
  simp only [List.cons_append, List.nil_append]
  after_results_simp
  rfl

end Cert.ReferenceIdeal.Body

end
-- ==== Proof.RefValue.lean ====
/-
What the reference's host operations leave at one place, over the extended reals: the normalised rows, the greatest magnitudes over
the greatest code, and the least powers of two above them are those of `LaneValue.lean` and `Scale.lean`.
-/
module

public import proofs.«01_k».proof.Proof.RefEntry

@[expose] public section

set_option maxRecDepth 8192

noncomputable section

namespace Cert.ReferenceIdeal.Body

open Idealize.ShloMosaic Idealize.ShloMosaic.TcCoe Idealize.ShloMosaic.ValueIdx
open Cert.ReferenceIdeal Cert.ReferenceIdeal.Gen Cert.Scale
open Cert.KernelIdeal.Body (rowOf gains rowRms rowNorm rowOver)

theorem lit_3072 : Ideal.ofBits .f32 0x45400000#32 = ((3072 : ℝ) : EReal) := by
  simp [Ideal.ofBits, Ideal.ieee, -EReal.coe_mul, -EReal.coe_pow]; norm_num
theorem lit_zero : Ideal.ofBits .f32 0x00000000#32 = 0 := by simp [Ideal.ofBits, Ideal.ieee]
theorem lit_bot : Ideal.ofBits .f32 0xFF800000#32 = ⊥ := by simp [Ideal.ofBits, Ideal.ieee]
theorem lit_top : Ideal.ofBits .f32 0x7F800000#32 = ⊤ := by simp [Ideal.ofBits, Ideal.ieee]
theorem lit_two : Ideal.ofBits .f32 0x40000000#32 = ((2 : ℝ) : EReal) := by
  simp [Ideal.ofBits, Ideal.ieee, -EReal.coe_mul, -EReal.coe_pow]; norm_num
theorem lit_low : Ideal.ofBits .f32 0xC2FA0000#32 = ((-125 : ℝ) : EReal) := by
  simp [Ideal.ofBits, Ideal.ieee, -EReal.coe_mul, -EReal.coe_pow, -EReal.coe_neg]; norm_num
theorem lit_min : Ideal.ofBits .f32 0x00800000#32 = p2 (-126) := by
  simp [Ideal.ofBits, Ideal.ieee, p2, -EReal.coe_mul, -EReal.coe_pow]; try norm_num

variable (x : FVec Ideal S6x2048x3072 .bf16) (g : FVec Ideal S3072 .f32)

/-- An array over the rows, spread along them. -/
theorem row_apply {α : Type} (h : S6x2048.BroadcastsInDim S6x2048x1 ![0, 1]) (v : S6x2048.Idx → α) (b : Fin 6) (s : Fin 2048) (z : Fin 1) :
    broadcastInDim S6x2048x1 ![0, 1] h v (ix3 b s z) = v (ix2 b s) :=
  broadcastInDim_apply _ _ _ _ _ fun a => by
    match a with
    | ⟨0, _⟩ => rfl
    | ⟨1, _⟩ => rfl

theorem rmsV_apply (b : Fin 6) (s : Fin 2048) (z : Fin 1) : rmsV x (ix3 b s z) = rowRms (rowOf x b s) := by
  refine congrArg Ideal.rsqrt (congrArg₂ (fun u v : EReal => u + v) ?_ (broadcastInDim_scalar_apply _ _ _))
  refine (congrArg₂ Ideal.div ((row_apply _ _ b s z).trans (Cert.LastAxis.reduceAdd_apply _ _ _ _ b s)) (broadcastInDim_scalar_apply _ _ _)).trans ?_
  refine (congrArg₂ Ideal.div (congrArg (fun u : EReal => u + _) lit_zero) lit_3072).trans ?_
  rw [zero_add]
  exact Ideal.div_coe (by norm_num) _

theorem normV_apply (b : Fin 6) (s : Fin 2048) (k : Fin 3072) : normV x g (ix3 b s k) = rowNorm (rowOf x b s) (gains g) k := by
  refine congrArg₂ (fun u v : EReal => u * v) (congrArg (fun v : EReal => x (ix3 b s k) * v) ?_) ?_
  · refine (broadcastInDim_apply _ _ _ _ (ix3 b s (0 : Fin 1)) fun a => ?_).trans (rmsV_apply x b s 0)
    match a with
    | ⟨0, _⟩ => rfl
    | ⟨1, _⟩ => rfl
    | ⟨2, _⟩ => rfl
  · refine (broadcastInDim_apply _ _ _ _ (ix3 (0 : Fin 1) (0 : Fin 1) k) fun a => ?_).trans
      (broadcastInDim_apply _ _ _ _ (ix1 k) fun a => ?_)
    · match a with
      | ⟨0, _⟩ => rfl
      | ⟨1, _⟩ => rfl
      | ⟨2, _⟩ => rfl
    · match a with
      | ⟨0, _⟩ => rfl

theorem overV_apply (b : Fin 6) (s : Fin 2048) (z : Fin 1) : overV x g (ix3 b s z) = rowOver (rowOf x b s) (gains g) := by
  have h1 : Host.reduce FloatOps.maximumf (Host.absf (normV x g)) (constant S_ .f32 0xFF800000#32) reducesTo_S6x2048x3072_S6x2048_d2 h_S_ (ix2 b s)
      = Finset.univ.sup fun k => max (rowNorm (rowOf x b s) (gains g) k) (-(rowNorm (rowOf x b s) (gains g) k)) := by
    refine (Cert.LastAxis.maximumf_apply _ _ _ _ b s).trans ?_
    refine Eq.trans ?_ (Cert.LastAxis.fold_max_bot _)
    refine congrArg₂ (fun (u : EReal) (f : Fin 3072 → EReal) => Finset.univ.fold max u f) lit_bot (funext fun k => ?_)
    exact congrArg (fun v : EReal => max v (-v)) (normV_apply x g b s k)
  unfold overV rowOver
  rw [mulf_apply, row_apply, h1]
  exact congrArg _ (broadcastInDim_scalar_apply _ _ _)

theorem toInt_small : ∀ j : Fin 254, (BitVec.ofNat 32 j.val).toInt = j.val := by decide +kernel

theorem powersV_apply (j : Fin 254) : powersV (ix1 j) = p2 ((j.val : ℤ) - 125) := by
  have h1 : powersV (ix1 j) = Ideal.pow (broadcastInDim S254 ![] bcast_S_S254 (constant (F := Ideal) S_ .f32 0x40000000#32) (ix1 j))
      ((broadcastInDim S254 ![] bcast_S_S254 (constant (F := Ideal) S_ .f32 0xC2FA0000#32) (ix1 j) : EReal)
        + (((BitVec.ofNat 32 j.val).toInt : ℝ) : EReal)) := rfl
  rw [h1, broadcastInDim_scalar_apply, broadcastInDim_scalar_apply, show constant (F := Ideal) S_ .f32 0x40000000#32 ix0 = ((2 : ℝ) : EReal) from lit_two,
    show constant (F := Ideal) S_ .f32 0xC2FA0000#32 ix0 = ((-125 : ℝ) : EReal) from lit_low, toInt_small, ← EReal.coe_add, Ideal.pow_coe_coe]
  unfold p2
  rw [show (-125 : ℝ) + (((j.val : ℕ) : ℤ) : ℝ) = (((j.val : ℤ) - 125 : ℤ) : ℝ) by push_cast; ring]
  exact congrArg _ (Real.rpow_intCast 2 _)

/-- A row's value, spread over the powers. -/
theorem over_apply {α : Type} (v : S6x2048x1.Idx → α) (b : Fin 6) (s : Fin 2048) (j : Fin 254) :
    broadcastInDim S6x2048x254 ![0, 1, 2] bcast_S6x2048x1_S6x2048x254_0_1_2 v (ix3 b s j) = v (ix3 b s (0 : Fin 1)) :=
  broadcastInDim_apply _ _ _ _ _ fun a => by
    match a with
    | ⟨0, _⟩ => rfl
    | ⟨1, _⟩ => rfl
    | ⟨2, _⟩ => rfl

/-- The powers, spread over the rows. -/
theorem each_apply {α : Type} (v : S254.Idx → α) (b : Fin 6) (s : Fin 2048) (j : Fin 254) :
    broadcastInDim S6x2048x254 ![0, 1, 2] bcast_S1x1x254_S6x2048x254_0_1_2 (broadcastInDim S1x1x254 ![2] bcast_S254_S1x1x254_2 v) (ix3 b s j)
      = v (ix1 j) := by
  refine (broadcastInDim_apply _ _ _ _ (ix3 (0 : Fin 1) (0 : Fin 1) j) fun a => ?_).trans (broadcastInDim_apply _ _ _ _ (ix1 j) fun a => ?_)
  · match a with
    | ⟨0, _⟩ => rfl
    | ⟨1, _⟩ => rfl
    | ⟨2, _⟩ => rfl
  · match a with
    | ⟨0, _⟩ => rfl

theorem each_apply' {α : Type} (v : S254.Idx → α) (b : Fin 6) (s : Fin 2048) (j : Fin 254) :
    broadcastInDim S6x2048x254 ![2] bcast_S254_S6x2048x254_2 v (ix3 b s j) = v (ix1 j) :=
  broadcastInDim_apply _ _ _ _ _ fun a => by
    match a with
    | ⟨0, _⟩ => rfl

theorem maskV_apply (b : Fin 6) (s : Fin 2048) (j : Fin 254) :
    maskV x g (ix3 b s j) = BitVec.ofBool (decide (rowOver (rowOf x b s) (gains g) < p2 ((j.val : ℤ) - 125)))
      &&& BitVec.ofBool (decide (p2 (-126) ≤ rowOver (rowOf x b s) (gains g))) := by
  unfold maskV
  rw [Cert.LastAxis.andi_apply, Cert.LastAxis.olt_apply, over_apply, over_apply, each_apply, Cert.LastAxis.oge_apply, overV_apply, powersV_apply,
    broadcastInDim_scalar_apply]
  rw [show constant (F := Ideal) S_ .f32 0x00800000#32 ix0 = p2 (-126) from lit_min]

theorem leastV_apply (b : Fin 6) (s : Fin 2048) : leastV x g (ix2 b s) = leastR (rowOver (rowOf x b s) (gains g)) := by
  unfold leastV leastR
  refine (Cert.LastAxis.minimumf_apply _ _ _ _ b s).trans ?_
  refine congrArg₂ (fun (u : EReal) (f : Fin 254 → EReal) => Finset.univ.fold min u f) lit_top (funext fun j => ?_)
  rw [select_apply, maskV_apply, each_apply', powersV_apply, broadcastInDim_scalar_apply, Cert.LastAxis.select_and]
  rw [show constant (F := Ideal) S_ .f32 0x7F800000#32 ix0 = (⊤ : EReal) from lit_top]
  rfl

end Cert.ReferenceIdeal.Body

end
-- ==== Proof.RefArrays.lean ====
/-
The arrays the reference's region leaves, as functions of the arguments: the codes, the product of the codes with the weights, and
the scales, row by row.
-/
module

public import proofs.«01_k».proof.Proof.RefValue
public import Idealize.ShloMosaic.Lib.MatmulPlain
public import Idealize.ShloMosaic.Lib.Pipeline.ValueKit.Geometry

@[expose] public section

set_option maxRecDepth 8192

noncomputable section

namespace Cert.ReferenceIdeal.Body

open Idealize.ShloMosaic Idealize.ShloMosaic.TcCoe Idealize.ShloMosaic.ValueIdx Idealize.ShloMosaic.Pipeline
open Cert.ReferenceIdeal Cert.ReferenceIdeal.Gen Cert.Scale
open Cert.KernelIdeal.Body (rowOf gains rowNorm rowOver rowCode scaleAt)

/-! ## The region's arithmetic at one place -/

variable (l : Vec Ideal S12288x1 .f32) (h : Vec Ideal S12288x3072 .f32) (w : Vec Ideal S3072x2304 .fp8e4m3)

theorem lit_one : Ideal.ofBits .f32 0x3F800000#32 = 1 := Cert.KernelIdeal.Body.lit_f32_p2.1.trans p2_zero
theorem lit_high : Ideal.ofBits .f32 0x7E800000#32 = p2 126 := by
  simp [Ideal.ofBits, Ideal.ieee, p2, -EReal.coe_mul, -EReal.coe_pow]; try norm_num

theorem pay1_apply (j : S12288x1.Idx) : k0_pay1 l j = scaleR (l j) := by
  have h1 : k0_pay1 l j = Scalar.select (BitVec.ofBool (decide ((shapeCast S12288x1 l shapeCasts_S12288x1_S12288x1 j : EReal) < Ideal.ofBits .f32 0x7F800000#32)))
      (shapeCast S12288x1 l shapeCasts_S12288x1_S12288x1 j : EReal) (Ideal.ofBits .f32 0x3F800000#32) := rfl
  rw [h1, shapeCast_self, lit_top, lit_one, Cert.LastAxis.select_if]
  rfl

theorem pay2_apply (r : Fin 12288) (k : Fin 3072) : k0_pay2 l h (ix2 r k) = min (Ideal.ofBits .f32 0x43E00000#32)
    (max (Ideal.ofBits .f32 0xC3E00000#32) (h (ix2 r k) * invR (l (ix2 r (0 : Fin 1))))) := by
  let inv : FVec Ideal S12288x1 .f32 := select (cmpf .ogt (k0_pay1 l) (broadcast S12288x1 (Scalar.ofBits .f32 0x7E800000#32)))
    (broadcast S12288x1 (Scalar.ofBits .f32 0x00000000#32)) (divf (broadcast S12288x1 (Scalar.ofBits .f32 0x3F800000#32)) (k0_pay1 l))
  have h1 : k0_pay2 l h (ix2 r k) = min (Ideal.ofBits .f32 0x43E00000#32) (max (Ideal.ofBits .f32 0xC3E00000#32)
      (shapeCast S12288x3072 h shapeCasts_S12288x3072_S12288x3072 (ix2 r k)
        * broadcastTo S12288x3072 inv broadcasts_S12288x1_S12288x3072 (ix2 r k))) := rfl
  have h2 : inv (ix2 r (0 : Fin 1)) = invR (l (ix2 r (0 : Fin 1))) := by
    have h3 : inv (ix2 r (0 : Fin 1)) = Scalar.select (BitVec.ofBool (decide (Ideal.ofBits .f32 0x7E800000#32 < (k0_pay1 l (ix2 r (0 : Fin 1)) : EReal))))
      (Ideal.ofBits .f32 0x00000000#32) (Ideal.div (Ideal.ofBits .f32 0x3F800000#32) (k0_pay1 l (ix2 r (0 : Fin 1)))) := rfl
    rw [h3, pay1_apply, lit_high, lit_zero, lit_one, Cert.LastAxis.select_if]
    rfl
  have h4 : broadcastTo S12288x3072 inv broadcasts_S12288x1_S12288x3072 (ix2 r k) = inv (ix2 r (0 : Fin 1)) :=
    congrArg inv (funext fun a => by
      match a with
      | ⟨0, _⟩ => rfl
      | ⟨1, _⟩ => rfl)
  rw [h1, shapeCast_self, h4, h2]

theorem pay3_apply (r : Fin 12288) (n : Fin 2304) :
    k0_pay3 l h w (ix2 r n) = ∑ k : Fin 3072, (k0_pay2 l h (ix2 r k) : EReal) * w (ix2 k n) := by
  unfold k0_pay3
  refine (Ideal.matmul_plain_apply none (k0_pay2 l h) w _ r n).trans ?_
  rw [show (constant S12288x2304 .f32 0x00000000#32 : FVec Ideal S12288x2304 .f32) (ix2 r n) = 0 from lit_zero, zero_add]

theorem out3_eq : out0_3 h l w = k0_pay2 l h := by
  unfold out0_3
  rw [View.canon_cons_unit_lit _ _ _ (by intro a; match a with | ⟨0, _⟩ => rfl | ⟨1, _⟩ => rfl),
    View.ld_unit_lit _ l (by intro a; match a with | ⟨0, _⟩ => rfl | ⟨1, _⟩ => rfl),
    View.ld_unit_lit _ h (by intro a; match a with | ⟨0, _⟩ => rfl | ⟨1, _⟩ => rfl)]

theorem out4_eq : out0_4 h l w = k0_pay3 l h w := by
  unfold out0_4
  rw [View.canon_cons_unit_lit _ _ _ (by intro a; match a with | ⟨0, _⟩ => rfl | ⟨1, _⟩ => rfl),
    View.ld_unit_lit _ l (by intro a; match a with | ⟨0, _⟩ => rfl | ⟨1, _⟩ => rfl),
    View.ld_unit_lit _ h (by intro a; match a with | ⟨0, _⟩ => rfl | ⟨1, _⟩ => rfl),
    View.ld_unit_lit _ w (by intro a; match a with | ⟨0, _⟩ => rfl | ⟨1, _⟩ => rfl)]

theorem out5_eq : out0_5 h l w = k0_pay1 l := by
  unfold out0_5
  rw [View.canon_cons_unit_lit _ _ _ (by intro a; match a with | ⟨0, _⟩ => rfl | ⟨1, _⟩ => rfl),
    View.ld_unit_lit _ l (by intro a; match a with | ⟨0, _⟩ => rfl | ⟨1, _⟩ => rfl)]

/-! ## The blocks: each is its whole array -/

variable (m : (ℓ : Loc nD τ sig) → Buf (Elt Ideal) ℓ) (c : Dev nD)

def wA : Vec Ideal S3072x2304 .fp8e4m3 := m ((c.tc : Thread nD τ).loc main_arg3)

theorem read0 (X : Vec Ideal S12288x3072 .f32) (t : Fin cfg0.N) : ((cfg0.win 0).blk t).view.read (Elt Ideal) X = X := by
  funext j
  refine congrArg X (funext fun d => Fin.ext ?_)
  exact Window.rect_emb_val_of_index_zero (cfg0.win 0) t d (by match d with | ⟨0, _⟩ => rfl | ⟨1, _⟩ => rfl) j

theorem blk0 (t : Fin cfg0.N) : iblk m c 0 t = V m c main_v35 := read0 _ t

theorem read1 (X : Vec Ideal S12288x1 .f32) (t : Fin cfg0.N) : ((cfg0.win 1).blk t).view.read (Elt Ideal) X = X := by
  funext j
  refine congrArg X (funext fun d => Fin.ext ?_)
  exact Window.rect_emb_val_of_index_zero (cfg0.win 1) t d (by match d with | ⟨0, _⟩ => rfl | ⟨1, _⟩ => rfl) j

theorem blk1 (t : Fin cfg0.N) : iblk m c 1 t = V m c main_v36 := read1 _ t

theorem read2 (X : Vec Ideal S3072x2304 .fp8e4m3) (t : Fin cfg0.N) : ((cfg0.win 2).blk t).view.read (Elt Ideal) X = X := by
  funext j
  refine congrArg X (funext fun d => Fin.ext ?_)
  exact Window.rect_emb_val_of_index_zero (cfg0.win 2) t d (by match d with | ⟨0, _⟩ => rfl | ⟨1, _⟩ => rfl) j

theorem blk2 (t : Fin cfg0.N) : iblk m c 2 t = V m c main_arg3 := read2 _ t

theorem arr3 : (dats m 0 c).arrAt 3 cfg0.N = k0_pay2 (V m c main_v36) (V m c main_v35) := by
  refine (dats m 0 c).arrAt_eq_of_covers 3 _ (by decide +kernel) fun t hf y => ?_
  rw [after0_3, out3_eq, blk0, blk1]
  refine (cast_eq _ _).trans (congrArg (k0_pay2 (V m c main_v36) (V m c main_v35)) (funext fun d => Fin.ext ?_))
  exact (Window.rect_emb_val_of_index_zero (cfg0.win 3) t d (by match d with | ⟨0, _⟩ => rfl | ⟨1, _⟩ => rfl) y).symm

theorem arr4 : (dats m 0 c).arrAt 4 cfg0.N = k0_pay3 (V m c main_v36) (V m c main_v35) (V m c main_arg3) := by
  refine (dats m 0 c).arrAt_eq_of_covers 4 _ (by decide +kernel) fun t hf y => ?_
  rw [after0_4, out4_eq, blk0, blk1, blk2]
  refine (cast_eq _ _).trans (congrArg (k0_pay3 (V m c main_v36) (V m c main_v35) (V m c main_arg3)) (funext fun d => Fin.ext ?_))
  exact (Window.rect_emb_val_of_index_zero (cfg0.win 4) t d (by match d with | ⟨0, _⟩ => rfl | ⟨1, _⟩ => rfl) y).symm

theorem arr5 : (dats m 0 c).arrAt 5 cfg0.N = k0_pay1 (V m c main_v36) := by
  refine (dats m 0 c).arrAt_eq_of_covers 5 _ (by decide +kernel) fun t hf y => ?_
  rw [after0_5, out5_eq, blk1]
  refine (cast_eq _ _).trans (congrArg (k0_pay1 (V m c main_v36)) (funext fun d => Fin.ext ?_))
  exact (Window.rect_emb_val_of_index_zero (cfg0.win 5) t d (by match d with | ⟨0, _⟩ => rfl | ⟨1, _⟩ => rfl) y).symm

/-! ## The arrays, by token -/

theorem v35_apply (r : Fin 12288) (k : Fin 3072) (b : Fin 6) (s : Fin 2048) (hr : r.val = b.val * 2048 + s.val) :
    V m c main_v35 (ix2 r k) = rowNorm (rowOf (xA m c) b s) (gains (gA m c)) k := by
  rw [V_main_v35]
  refine (shapeCast_apply _ _ _ (ix3 b s k) ?_).trans (normV_apply _ _ b s k)
  rw [Shape.rowMajor_val_three, Shape.rowMajor_val_two]
  show (b.val * 2048 + s.val) * 3072 + k.val = r.val * 3072 + k.val
  omega

theorem v36_apply (r : Fin 12288) (z : Fin 1) (b : Fin 6) (s : Fin 2048) (hr : r.val = b.val * 2048 + s.val) :
    V m c main_v36 (ix2 r z) = leastR (rowOver (rowOf (xA m c) b s) (gains (gA m c))) := by
  rw [V_main_v36]
  refine (shapeCast_apply _ _ _ (ix3 b s z) ?_).trans ((row_apply _ _ b s z).trans (leastV_apply _ _ b s))
  rw [Shape.rowMajor_val_three, Shape.rowMajor_val_two]
  show (b.val * 2048 + s.val) * 1 + z.val = r.val * 1 + z.val
  omega

theorem codes_at (r : Fin 12288) (k : Fin 3072) (b : Fin 6) (s : Fin 2048) (hr : r.val = b.val * 2048 + s.val) :
    k0_pay2 (V m c main_v36) (V m c main_v35) (ix2 r k) = rowCode (rowOf (xA m c) b s) (gains (gA m c)) k := by
  rw [pay2_apply, v35_apply m c r k b s hr, v36_apply m c r 0 b s hr, ← invS_eq]
  rfl

theorem product_at (r : Fin 12288) (n : Fin 2304) (b : Fin 6) (s : Fin 2048) (hr : r.val = b.val * 2048 + s.val) :
    k0_pay3 (V m c main_v36) (V m c main_v35) (V m c main_arg3) (ix2 r n)
      = ∑ k : Fin 3072, rowCode (rowOf (xA m c) b s) (gains (gA m c)) k * wA m c (ix2 k n) := by
  rw [pay3_apply, V_main_arg3]
  exact Finset.sum_congr rfl fun k _ => congrArg (fun v : EReal => v * wA m c (ix2 k n)) (codes_at m c r k b s hr)

theorem scales_at (r : Fin 12288) (z : Fin 1) (b : Fin 6) (s : Fin 2048) (hr : r.val = b.val * 2048 + s.val) :
    k0_pay1 (V m c main_v36) (ix2 r z) = scaleAt (xA m c) (gA m c) b s := by
  rw [pay1_apply, v36_apply m c r z b s hr, ← scaleS_eq]
  rfl

end Cert.ReferenceIdeal.Body

end
-- ==== Proof.RefResults.lean ====
/-
The reference's five results as functions of its arguments, and its run: they are the kernel's.
-/
module

public import proofs.«01_k».proof.Proof.RefArrays

@[expose] public section

set_option maxRecDepth 8192

noncomputable section

namespace Cert.ReferenceIdeal.Body

open Idealize.ShloMosaic Idealize.ShloMosaic.TcCoe Idealize.ShloMosaic.ValueIdx Idealize.ShloMosaic.StableHlo
open Cert.ReferenceIdeal Cert.ReferenceIdeal.Gen Cert.ReferenceIdeal.Value Cert.Scale
open Cert.KernelIdeal.Body (rowOf gains scaleRow2 rowCode scaleAt freqs angle prodCol productAt rotVal rotAt plainAt wholeCodes wholeScales wholeRot wholePlain)

/-! ## The operations after the region, on any arrays -/

section Terms

/-- The product times both scales. -/
def qkvV (a : FVec Ideal S12288x2304 .f32) (z : FVec Ideal S12288x1 .f32) (ws : FVec Ideal S2304 .f32) : FVec Ideal S6x2048x2304 .f32 :=
  mulf (mulf (shapeCast _ a shapeCasts_S12288x2304_S6x2048x2304)
    (broadcastInDim S6x2048x2304 ![0, 1, 2] bcast_S6x2048x1_S6x2048x2304_0_1_2 (shapeCast _ z shapeCasts_S12288x1_S6x2048x1)))
    (broadcastInDim S6x2048x2304 ![0, 1, 2] bcast_S1x1x2304_S6x2048x2304_0_1_2 (broadcastInDim S1x1x2304 ![2] bcast_S2304_S1x1x2304_2 ws))

theorem qkvV_apply (a : FVec Ideal S12288x2304 .f32) (z : FVec Ideal S12288x1 .f32) (ws : FVec Ideal S2304 .f32) (b : Fin 6) (s : Fin 2048)
    (n : Fin 2304) (r : Fin 12288) (hr : r.val = b.val * 2048 + s.val) :
    qkvV a z ws (ix3 b s n) = (a (ix2 r n) : EReal) * z (ix2 r (0 : Fin 1)) * ws (ix1 n) := by
  refine congrArg₂ (fun u v : EReal => u * v) (congrArg₂ (fun u v : EReal => u * v) ?_ ?_) ?_
  · refine shapeCast_apply _ _ _ (ix2 r n) ?_
    rw [Shape.rowMajor_val_three, Shape.rowMajor_val_two]
    show r.val * 2304 + n.val = (b.val * 2048 + s.val) * 2304 + n.val
    omega
  · refine (broadcastInDim_apply _ _ _ _ (ix3 b s (0 : Fin 1)) fun d => ?_).trans (shapeCast_apply _ _ _ (ix2 r (0 : Fin 1)) ?_)
    · match d with
      | ⟨0, _⟩ => rfl
      | ⟨1, _⟩ => rfl
      | ⟨2, _⟩ => rfl
    · rw [Shape.rowMajor_val_three, Shape.rowMajor_val_two]
      show r.val * 1 + 0 = (b.val * 2048 + s.val) * 1 + 0
      omega
  · refine (broadcastInDim_apply _ _ _ _ (ix3 (0 : Fin 1) (0 : Fin 1) n) fun d => ?_).trans (broadcastInDim_apply _ _ _ _ (ix1 n) fun d => ?_)
    · match d with
      | ⟨0, _⟩ => rfl
      | ⟨1, _⟩ => rfl
      | ⟨2, _⟩ => rfl
    · match d with
      | ⟨0, _⟩ => rfl

/-- Eight heads of the product. -/
theorem heads_apply (o : ℕ) (v : FVec Ideal S6x2048x2304 .f32) (hs : S6x2048x2304.Slices ![0, 0, o] S6x2048x768) (b : Fin 6) (s : Fin 2048)
    (e : Fin 8) (d : Fin 96) (n : Fin 2304) (hn : n.val = o + (96 * e.val + d.val)) :
    shapeCast S6x2048x8x96 (extractStridedSlice S6x2048x768 ![0, 0, o] v hs) shapeCasts_S6x2048x768_S6x2048x8x96 (ix4 b s e d) = v (ix3 b s n) := by
  refine (shapeCast_apply _ _ _ (ix3 b s (⟨96 * e.val + d.val, by omega⟩ : Fin 768)) ?_).trans (extractStridedSlice_apply _ _ _ _ _ fun a => ?_)
  · refine (Shape.rowMajor_val_three _).trans (Eq.trans ?_ (Shape.rowMajor_val_four (d := ![6, 2048, 8, 96]) _).symm)
    show (b.val * 2048 + s.val) * 768 + (96 * e.val + d.val) = ((b.val * 2048 + s.val) * 8 + e.val) * 96 + d.val
    omega
  · match a with
    | ⟨0, _⟩ => exact (Nat.zero_add _).symm
    | ⟨1, _⟩ => exact (Nat.zero_add _).symm
    | ⟨2, _⟩ => exact hn

/-- Half of each head. -/
theorem half_apply (o : ℕ) (v : FVec Ideal S6x2048x8x96 .f32) (hs : S6x2048x8x96.Slices ![0, 0, 0, o] S6x2048x8x48) (b : Fin 6) (s : Fin 2048)
    (e : Fin 8) (d : Fin 48) (d' : Fin 96) (hd : d'.val = o + d.val) :
    extractStridedSlice S6x2048x8x48 ![0, 0, 0, o] v hs (ix4 b s e d) = v (ix4 b s e d') :=
  extractStridedSlice_apply _ _ _ _ _ fun a => by
    match a with
    | ⟨0, _⟩ => exact (Nat.zero_add _).symm
    | ⟨1, _⟩ => exact (Nat.zero_add _).symm
    | ⟨2, _⟩ => exact (Nat.zero_add _).symm
    | ⟨3, _⟩ => exact hd

/-- The angles. -/
def angleV (p : IVec S6x2048 32) : FVec Ideal S6x2048x48 .f32 :=
  mulf (broadcastInDim S6x2048x48 ![0, 1, 2] bcast_S6x2048x1_S6x2048x48_0_1_2 (broadcastInDim S6x2048x1 ![0, 1] bcast_S6x2048_S6x2048x1_0_1 (sitofp .f32 p)))
    (broadcastInDim S6x2048x48 ![0, 1, 2] bcast_S1x1x48_S6x2048x48_0_1_2 (broadcastInDim S1x1x48 ![2] bcast_S48_S1x1x48_2 freqs))

theorem angleV_apply (p : IVec S6x2048 32) (b : Fin 6) (s : Fin 2048) (d : Fin 48) :
    angleV p (ix3 b s d) = angle (p (ix2 b s)) (freqs (ix1 d)) := by
  refine congrArg₂ (fun u v : EReal => u * v) ?_ ?_
  · refine (broadcastInDim_apply _ _ _ _ (ix3 b s (0 : Fin 1)) fun a => ?_).trans (row_apply _ _ b s 0)
    match a with
    | ⟨0, _⟩ => rfl
    | ⟨1, _⟩ => rfl
    | ⟨2, _⟩ => rfl
  · refine (broadcastInDim_apply _ _ _ _ (ix3 (0 : Fin 1) (0 : Fin 1) d) fun a => ?_).trans (broadcastInDim_apply _ _ _ _ (ix1 d) fun a => ?_)
    · match a with
      | ⟨0, _⟩ => rfl
      | ⟨1, _⟩ => rfl
      | ⟨2, _⟩ => rfl
    · match a with
      | ⟨0, _⟩ => rfl

/-- Cosines or sines, spread over the heads. -/
theorem spread_apply (v : FVec Ideal S6x2048x48 .f32) (b : Fin 6) (s : Fin 2048) (e : Fin 8) (d : Fin 48) :
    broadcastInDim S6x2048x8x48 ![0, 1, 2, 3] bcast_S6x2048x1x48_S6x2048x8x48_0_1_2_3
      (broadcastInDim S6x2048x1x48 ![0, 1, 3] bcast_S6x2048x48_S6x2048x1x48_0_1_3 v) (ix4 b s e d) = v (ix3 b s d) := by
  refine (broadcastInDim_apply _ _ _ _ (ix4 b s (0 : Fin 1) d) fun a => ?_).trans (broadcastInDim_apply _ _ _ _ (ix3 b s d) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- Heads turned by cosines and sines. -/
def turnV (y : FVec Ideal S6x2048x8x96 .f32) (cs sn : FVec Ideal S6x2048x48 .f32) : FVec Ideal S6x2048x8x96 .bf16 :=
  let y1 := extractStridedSlice S6x2048x8x48 ![0, 0, 0, 0] y slices_S6x2048x8x96_S6x2048x8x48_0_0_0_0
  let y2 := extractStridedSlice S6x2048x8x48 ![0, 0, 0, 48] y slices_S6x2048x8x96_S6x2048x8x48_0_0_0_48
  let c := broadcastInDim S6x2048x8x48 ![0, 1, 2, 3] bcast_S6x2048x1x48_S6x2048x8x48_0_1_2_3 (broadcastInDim S6x2048x1x48 ![0, 1, 3] bcast_S6x2048x48_S6x2048x1x48_0_1_3 cs)
  let s := broadcastInDim S6x2048x8x48 ![0, 1, 2, 3] bcast_S6x2048x1x48_S6x2048x8x48_0_1_2_3 (broadcastInDim S6x2048x1x48 ![0, 1, 3] bcast_S6x2048x48_S6x2048x1x48_0_1_3 sn)
  truncf .bf16 (concatenate S6x2048x8x96 3 [⟨S6x2048x8x48, subf (mulf y1 c) (mulf y2 s)⟩, ⟨S6x2048x8x48, addf (mulf y2 c) (mulf y1 s)⟩]
    concatenates_S6x2048x8x48_S6x2048x8x48_S6x2048x8x96_d3) bitsLt_bf16_f32

theorem turnV_low (y : FVec Ideal S6x2048x8x96 .f32) (cs sn : FVec Ideal S6x2048x48 .f32) (b : Fin 6) (s : Fin 2048) (e : Fin 8) (d : Fin 96)
    (d0 : Fin 48) (d1 : Fin 96) (h0 : d0.val = d.val) (h1 : d1.val = 48 + d.val) :
    (turnV y cs sn (ix4 b s e d) : EReal)
      = (y (ix4 b s e d) : EReal) * cs (ix3 b s d0) - (y (ix4 b s e d1) : EReal) * sn (ix3 b s d0) := by
  refine (concatenate_pair_apply_left (t := S6x2048x8x96) (s₁ := S6x2048x8x48) (s₂ := S6x2048x8x48) (3 : Fin 4) _ _ concatenates_S6x2048x8x48_S6x2048x8x48_S6x2048x8x96_d3 (ix4 b s e d) rfl (ix4 b s e d0) fun a => ?_).trans ?_
  · match a with
    | ⟨0, _⟩ => rfl
    | ⟨1, _⟩ => rfl
    | ⟨2, _⟩ => rfl
    | ⟨3, _⟩ => exact h0
  · refine congrArg₂ (fun u v : EReal => u - v) (congrArg₂ (fun u v : EReal => u * v) (half_apply 0 y _ b s e d0 d (by omega)) (spread_apply cs b s e d0))
      (congrArg₂ (fun u v : EReal => u * v) (half_apply 48 y _ b s e d0 d1 (by omega)) (spread_apply sn b s e d0))

theorem turnV_high (y : FVec Ideal S6x2048x8x96 .f32) (cs sn : FVec Ideal S6x2048x48 .f32) (b : Fin 6) (s : Fin 2048) (e : Fin 8) (d : Fin 96)
    (d0 : Fin 48) (d1 : Fin 96) (h0 : d.val = 48 + d0.val) (h1 : d1.val = d0.val) :
    (turnV y cs sn (ix4 b s e d) : EReal)
      = (y (ix4 b s e d) : EReal) * cs (ix3 b s d0) + (y (ix4 b s e d1) : EReal) * sn (ix3 b s d0) := by
  refine (concatenate_pair_apply_right (t := S6x2048x8x96) (s₁ := S6x2048x8x48) (s₂ := S6x2048x8x48) (3 : Fin 4) _ _ concatenates_S6x2048x8x48_S6x2048x8x48_S6x2048x8x96_d3 (ix4 b s e d) rfl rfl (ix4 b s e d0)
    (fun a ha => ?_) ?_).trans ?_
  · match a, ha with
    | ⟨0, _⟩, _ => rfl
    | ⟨1, _⟩, _ => rfl
    | ⟨2, _⟩, _ => rfl
    | ⟨3, _⟩, ha => exact absurd rfl ha
  · show d0.val + 48 = d.val
    omega
  · refine congrArg₂ (fun u v : EReal => u + v) (congrArg₂ (fun u v : EReal => u * v) (half_apply 48 y _ b s e d0 d h0) (spread_apply cs b s e d0))
      (congrArg₂ (fun u v : EReal => u * v) (half_apply 0 y _ b s e d0 d1 (by omega)) (spread_apply sn b s e d0))

end Terms

/-! ## The results -/

variable (m : (ℓ : Loc nD τ sig) → Buf (Elt Ideal) ℓ) (c : Dev nD)

def pA : IVec S6x2048 32 := m ((c.tc : Thread nD τ).loc main_arg2)
def sA : FVec Ideal S2304 .f32 := m ((c.tc : Thread nD τ).loc main_arg4)

theorem exit0 : exitV m c (Proc.devRef .tc main_v37_0) = k0_pay2 (V m c main_v36) (V m c main_v35) := (exit_main_v37_0 m c).trans (arr3 m c)
theorem exit1 : exitV m c (Proc.devRef .tc main_v37_1) = k0_pay3 (V m c main_v36) (V m c main_v35) (V m c main_arg3) :=
  (exit_main_v37_1 m c).trans (arr4 m c)
theorem exit2 : exitV m c (Proc.devRef .tc main_v37_2) = k0_pay1 (V m c main_v36) := (exit_main_v37_2 m c).trans (arr5 m c)

/-- The product times both scales, over the arguments. -/
def qkv : FVec Ideal S6x2048x2304 .f32 :=
  qkvV (k0_pay3 (V m c main_v36) (V m c main_v35) (V m c main_arg3)) (k0_pay1 (V m c main_v36)) (sA m c)

theorem v44_eq : res_main_v44 (exitV m c) = qkv m c := by
  have h (W : Valuation τ sig (Elt Ideal)) : res_main_v44 W
      = qkvV (W (Proc.devRef .tc main_v37_1)) (W (Proc.devRef .tc main_v37_2)) (W (Proc.devRef .tc main_arg4)) := rfl
  rw [h, exit1, exit2, exit_main_arg4]
  rfl

theorem qkv_apply (b : Fin 6) (s : Fin 2048) (n : Fin 2304) : qkv m c (ix3 b s n)
    = productAt (xA m c) (gA m c) (wA m c) (sA m c) b s n.val * scaleAt (xA m c) (gA m c) b s := by
  have hr : (⟨b.val * 2048 + s.val, by omega⟩ : Fin 12288).val = b.val * 2048 + s.val := rfl
  refine (qkvV_apply _ _ _ b s n _ hr).trans ?_
  rw [product_at m c _ n b s hr, scales_at m c _ 0 b s hr]
  unfold productAt prodCol
  rw [dif_pos n.isLt]
  show _ = (∑ k : Fin 3072, (wA m c (ix2 k n) : EReal) * rowCode (rowOf (xA m c) b s) (gains (gA m c)) k) * (sA m c (ix1 n) : EReal) * _
  rw [mul_right_comm]
  exact congrArg (fun v : EReal => v * (sA m c (ix1 n) : EReal) * _) (Finset.sum_congr rfl fun k _ => mul_comm _ _)

/-- Eight heads. -/
def headsV (o : ℕ) (hs : S6x2048x2304.Slices ![0, 0, o] S6x2048x768) : FVec Ideal S6x2048x8x96 .f32 :=
  shapeCast S6x2048x8x96 (extractStridedSlice S6x2048x768 ![0, 0, o] (qkv m c) hs) shapeCasts_S6x2048x768_S6x2048x8x96

theorem headsV_apply (o c0 : ℕ) (hs : S6x2048x2304.Slices ![0, 0, o] S6x2048x768) (ho : o = 384 * c0) (hc : c0 ≤ 4) (b : Fin 6) (s : Fin 2048)
    (e : Fin 8) (d : Fin 96) : headsV m c o hs (ix4 b s e d) = plainAt (xA m c) (gA m c) (wA m c) (sA m c) b s (4 * c0 + e.val) d.val := by
  refine (heads_apply o (qkv m c) hs b s e d (⟨96 * (4 * c0 + e.val) + d.val, by omega⟩ : Fin 2304) ?_).trans (qkv_apply m c b s _)
  show 96 * (4 * c0 + e.val) + d.val = o + (96 * e.val + d.val)
  omega

theorem turn_apply (o c0 : ℕ) (hs : S6x2048x2304.Slices ![0, 0, o] S6x2048x768) (ho : o = 384 * c0) (hc : c0 ≤ 4) (b : Fin 6) (s : Fin 2048)
    (e : Fin 8) (d : Fin 96) :
    turnV (headsV m c o hs) (Host.cos (angleV (pA m c))) (Host.sin (angleV (pA m c))) (ix4 b s e d)
      = rotAt (xA m c) (gA m c) (pA m c) (wA m c) (sA m c) b s (4 * c0 + e.val) d.val := by
  have hcos : ∀ d0 : Fin 48, Host.cos (angleV (pA m c)) (ix3 b s d0) = (FloatOps.cos (angle (pA m c (ix2 b s)) (freqs (ix1 d0))) : Ideal .f32) :=
    fun d0 => congrArg (fun v : EReal => (FloatOps.cos v : Ideal .f32)) (angleV_apply (pA m c) b s d0)
  have hsin : ∀ d0 : Fin 48, Host.sin (angleV (pA m c)) (ix3 b s d0) = (FloatOps.sin (angle (pA m c (ix2 b s)) (freqs (ix1 d0))) : Ideal .f32) :=
    fun d0 => congrArg (fun v : EReal => (FloatOps.sin v : Ideal .f32)) (angleV_apply (pA m c) b s d0)
  have halg : ∀ P X t : EReal, P * X * t = P * (t * X) := fun P X t => by rw [mul_assoc, mul_comm X t]
  unfold rotAt rotVal
  by_cases hd : d.val < 48
  · rw [dif_pos hd]
    refine (turnV_low _ _ _ b s e d ⟨d.val, hd⟩ ⟨48 + d.val, by omega⟩ rfl rfl).trans ?_
    rw [headsV_apply m c o c0 hs ho hc, headsV_apply m c o c0 hs ho hc, hcos, hsin]
    exact congrArg₂ (fun u v : EReal => u - v) (halg _ _ _) (halg _ _ _)
  · rw [dif_neg hd, dif_pos d.isLt]
    refine (turnV_high _ _ _ b s e d ⟨d.val - 48, by omega⟩ ⟨d.val - 48, by omega⟩ (show d.val = 48 + (d.val - 48) by omega) rfl).trans ?_
    rw [headsV_apply m c o c0 hs ho hc, headsV_apply m c o c0 hs ho hc, hcos, hsin]
    exact congrArg₂ (fun u v : EReal => u + v) (halg _ _ _) (halg _ _ _)

theorem eq_ix4' (j : S6x2048x8x96.Idx) : j = ix4 (j 0 : Fin 6) (j 1 : Fin 2048) (j 2 : Fin 8) (j 3 : Fin 96) :=
  funext fun a => by
    match a with
    | ⟨0, _⟩ => rfl
    | ⟨1, _⟩ => rfl
    | ⟨2, _⟩ => rfl
    | ⟨3, _⟩ => rfl

theorem turn_eq (o c0 : ℕ) (hs : S6x2048x2304.Slices ![0, 0, o] S6x2048x768) (ho : o = 384 * c0) (hc : c0 ≤ 4) :
    turnV (headsV m c o hs) (Host.cos (angleV (pA m c))) (Host.sin (angleV (pA m c)))
      = wholeRot (xA m c) (gA m c) (pA m c) (wA m c) (sA m c) c0 :=
  funext fun j => (congrArg _ (eq_ix4' j)).trans (turn_apply m c o c0 hs ho hc (j 0) (j 1) (j 2) (j 3))

theorem plain_eq (o c0 : ℕ) (hs : S6x2048x2304.Slices ![0, 0, o] S6x2048x768) (ho : o = 384 * c0) (hc : c0 ≤ 4) :
    headsV m c o hs = wholePlain (xA m c) (gA m c) (wA m c) (sA m c) c0 :=
  funext fun j => (congrArg _ (eq_ix4' j)).trans (headsV_apply m c o c0 hs ho hc (j 0) (j 1) (j 2) (j 3))

theorem codes_eq : shapeCast S6x2048x3072 (k0_pay2 (V m c main_v36) (V m c main_v35)) shapeCasts_S12288x3072_S6x2048x3072
    = wholeCodes (xA m c) (gA m c) := by
  funext j
  have h0 : (j 0).val < 6 := (j 0).isLt
  have h1 : (j 1).val < 2048 := (j 1).isLt
  refine (shapeCast_apply _ _ _ (ix2 (⟨(j 0).val * 2048 + (j 1).val, by omega⟩ : Fin 12288) (j 2 : Fin 3072)) ?_).trans
    (codes_at m c _ (j 2) (j 0) (j 1) rfl)
  rw [Shape.rowMajor_val_two, Shape.rowMajor_val_three]
  rfl

theorem scales_eq : shapeCast S6x2048x1 (k0_pay1 (V m c main_v36)) shapeCasts_S12288x1_S6x2048x1 = wholeScales (xA m c) (gA m c) := by
  funext j
  have h0 : (j 0).val < 6 := (j 0).isLt
  have h1 : (j 1).val < 2048 := (j 1).isLt
  refine (shapeCast_apply _ _ _ (ix2 (⟨(j 0).val * 2048 + (j 1).val, by omega⟩ : Fin 12288) (j 2 : Fin 1)) ?_).trans
    (scales_at m c _ (j 2) (j 0) (j 1) rfl)
  rw [Shape.rowMajor_val_two, Shape.rowMajor_val_three]
  rfl

/-! ## The run -/

theorem v66_eq (W : Valuation τ sig (Elt Ideal)) : res_main_v66 W = angleV (W (Proc.devRef .tc main_arg2)) := rfl

theorem run_values (ρ : Dev nD → PrngReg) :
    θ_run defs (onTc (τ := τ) (main (F := Ideal))) ⟨m, fun _ => 0, ρ⟩ fun r => ∀ c : Dev nD,
      r.2.mem ((c.tc : Thread nD τ).loc main_v84) = wholeRot (xA m c) (gA m c) (pA m c) (wA m c) (sA m c) 0
      ∧ r.2.mem ((c.tc : Thread nD τ).loc main_v98) = wholeRot (xA m c) (gA m c) (pA m c) (wA m c) (sA m c) 2
      ∧ r.2.mem ((c.tc : Thread nD τ).loc main_v99) = wholePlain (xA m c) (gA m c) (wA m c) (sA m c) 4
      ∧ r.2.mem ((c.tc : Thread nD τ).loc main_v100) = wholeCodes (xA m c) (gA m c)
      ∧ r.2.mem ((c.tc : Thread nD τ).loc main_v38) = wholeScales (xA m c) (gA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Value.run m ρ)
  obtain ⟨h0, h1, h2, h3, h4, ha⟩ := h c
  have e44 := v44_eq m c
  have e66 : res_main_v66 (exitV m c) = angleV (pA m c) := (v66_eq _).trans (congrArg angleV (exit_main_arg2 m c))
  refine ⟨h0.trans ?_, h1.trans ?_, h2.trans ?_, h3.trans ?_, h4.trans ?_, ha⟩
  · unfold res_main_v71 res_main_v72 res_main_v46 res_main_v68 res_main_v70
    rw [e44, e66]
    exact turn_eq m c 0 0 _ rfl (by omega)
  · unfold res_main_v85 res_main_v86 res_main_v48 res_main_v68 res_main_v70
    rw [e44, e66]
    exact turn_eq m c 768 2 _ rfl (by omega)
  · rw [e44]
    exact plain_eq m c 1536 4 _ rfl (by omega)
  · rw [exit0]
    exact codes_eq m c
  · rw [exit2]
    exact scales_eq m c

end Cert.ReferenceIdeal.Body

end
-- ==== Proof.Match.lean ====
/-
From memories that agree on the arguments, the ideal kernel and the ideal reference end with equal results: both runs end
with the same five functions of their arguments (`Results.lean`, `RefResults.lean`).
-/
module

public import proofs.«01_k».proof.Defs
public import proofs.«01_k».proof.Proof.Results
public import proofs.«01_k».proof.Proof.RefResults

@[expose] public section

noncomputable section

namespace Cert.Match

open Idealize.ShloMosaic Idealize.SL.Sem
open Cert.KernelIdeal.Body (wholeRot wholePlain wholeCodes wholeScales xA gA pA wA sA)

/-- The algebraic claim: the results are the kernel's five functions of the arguments, on either side. -/
theorem results_eq : @Cert.algebraic_KernelIdeal_ReferenceIdeal Cert.KernelIdeal.Gen.facts Cert.ReferenceIdeal.Gen.facts := by
  intro m g m' g' _ hagree
  refine ⟨fun c => wholeRot (xA m c) (gA m c) (pA m c) (wA m c) (sA m c) 0, fun c => wholeRot (xA m c) (gA m c) (pA m c) (wA m c) (sA m c) 2,
    fun c => wholePlain (xA m c) (gA m c) (wA m c) (sA m c) 4, fun c => wholeCodes (xA m c) (gA m c), fun c => wholeScales (xA m c) (gA m c), ?_, ?_⟩
  · refine (θ_run _ _ _).mono (fun r h c => ?_) (θ_run_and (Cert.KernelIdeal.Body.run_values m g) (Cert.KernelIdeal.Body.unchanged m g))
    obtain ⟨h0, h1, h2, h3, h4⟩ := h.1 c
    exact ⟨h0, h1, h2, h3, h4, h.2 c⟩
  · refine (θ_run _ _ _).mono (fun r h c => ?_) (Cert.ReferenceIdeal.Body.run_values m' g')
    obtain ⟨e0, e1, e2, e3, e4⟩ := hagree c
    have hx : Cert.ReferenceIdeal.Body.xA m' c = xA m c := e0
    have hg : Cert.ReferenceIdeal.Body.gA m' c = gA m c := e1
    have hp : Cert.ReferenceIdeal.Body.pA m' c = pA m c := e2
    have hw : Cert.ReferenceIdeal.Body.wA m' c = wA m c := e3
    have hs : Cert.ReferenceIdeal.Body.sA m' c = sA m c := e4
    have hc := h c
    rw [hx, hg, hp, hw, hs] at hc
    exact hc

end Cert.Match

end
-- ==== Proof.lean ====
/-
The proof of `Cert.Claim` (proofs.«01_k».proof.Defs): the three programs run and leave their arguments unchanged, the ideal
kernel is the kernel with one constant named, and the ideal kernel's five results are the ideal reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Match
public import Idealize.ShloMosaic.Adequacy
public import Idealize.ShloMosaic.Init

@[expose] public section

noncomputable section

namespace Cert.Proof

open Idealize.ShloMosaic Idealize.SL.Sem Cert.Kernel

/-- Kernel, ideal kernel and ideal reference each terminate without fault, leave their arguments unchanged and end with
every semaphore at zero; the ideal kernel's one named constant is the real number 1/3072 that its literal rounds;
from equal arguments the ideal kernel and the ideal reference end with equal results. -/
theorem claim : Cert.Claim :=
  ⟨Cert.Kernel.Gen.facts, Cert.KernelIdeal.Gen.facts, Cert.ReferenceIdeal.Gen.facts,
    fun m ρ _ => Cert.Kernel.Body.frame_zero m ρ,
    fun m ρ _ => Cert.KernelIdeal.Body.frame_zero m ρ,
    fun m ρ _ => Cert.ReferenceIdeal.Gen.frame m ρ,
    IdealRules.named_const.statement Cert.KernelIdeal.κ "inv_d_model" .f32 0x39AAAAAB#32 ((1/3072:ℝ):EReal) rfl,
    Cert.Match.results_eq⟩

end Cert.Proof

end
